-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_d" .f32 0x39AAAAAB#32 ((1 / 3072 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3072 : Shape := ⟨3, ![2, 1024, 3072]⟩
abbrev S2x1024 : Shape := ⟨2, ![2, 1024]⟩
abbrev S1 : Shape := ⟨1, ![1]⟩
abbrev S2x3072 : Shape := ⟨2, ![2, 3072]⟩
abbrev S2x3x3072 : Shape := ⟨3, ![2, 3, 3072]⟩
abbrev S2x8x3x3072 : Shape := ⟨4, ![2, 8, 3, 3072]⟩
abbrev S1x128x3072 : Shape := ⟨3, ![1, 128, 3072]⟩
abbrev S1x3x3072 : Shape := ⟨3, ![1, 3, 3072]⟩
abbrev S1x1x3x3072 : Shape := ⟨4, ![1, 1, 3, 3072]⟩
abbrev S2x128 : Shape := ⟨2, ![2, 128]⟩
abbrev S128 : Shape := ⟨1, ![128]⟩
abbrev S1x128 : Shape := ⟨2, ![1, 128]⟩
abbrev S128x1 : Shape := ⟨2, ![128, 1]⟩
abbrev S128x3072 : Shape := ⟨2, ![128, 3072]⟩
abbrev S3072 : Shape := ⟨1, ![3072]⟩
abbrev S1x3072 : Shape := ⟨2, ![1, 3072]⟩
abbrev S3x3072 : Shape := ⟨2, ![3, 3072]⟩

abbrev nBuf : Space → Nat
  | .hbm => 13
  | .vmem => 17
  | .smem => 3
  | _ => 0

abbrev bufTy : (tb : Table) → Fin (tcTables nBuf tb) → BufTy
  | .hbm, ⟨0, _⟩ => ⟨S2x1024x3072, .fp8e4m3⟩
  | .hbm, ⟨1, _⟩ => ⟨S2x1024, .f32⟩
  | .hbm, ⟨2, _⟩ => ⟨S2x1024x3072, .bf16⟩
  | .hbm, ⟨3, _⟩ => ⟨S2x1024x3072, .fp8e5m2⟩
  | .hbm, ⟨4, _⟩ => ⟨S1, .f32⟩
  | .hbm, ⟨5, _⟩ => ⟨S2x1024x3072, .fp8e5m2⟩
  | .hbm, ⟨6, _⟩ => ⟨S1, .f32⟩
  | .hbm, ⟨7, _⟩ => ⟨S2x3072, .f32⟩
  | .hbm, ⟨8, _⟩ => ⟨S1, .f32⟩
  | .hbm, ⟨9, _⟩ => ⟨S2x3x3072, .f32⟩
  | .hbm, ⟨10, _⟩ => ⟨S2x8x3x3072, .f32⟩
  | .hbm, ⟨11, _⟩ => ⟨S2x1024, .f32⟩
  | .hbm, ⟨12, _⟩ => ⟨S2x1024x3072, .fp8e5m2⟩
  | .local _ .vmem, ⟨0, _⟩ => ⟨S1x128x3072, .fp8e4m3⟩
  | .local _ .vmem, ⟨1, _⟩ => ⟨S1x128x3072, .fp8e4m3⟩
  | .local _ .vmem, ⟨2, _⟩ => ⟨S2x1024, .f32⟩
  | .local _ .vmem, ⟨3, _⟩ => ⟨S1x128x3072, .bf16⟩
  | .local _ .vmem, ⟨4, _⟩ => ⟨S1x128x3072, .bf16⟩
  | .local _ .vmem, ⟨5, _⟩ => ⟨S1x128x3072, .fp8e5m2⟩
  | .local _ .vmem, ⟨6, _⟩ => ⟨S1x128x3072, .fp8e5m2⟩
  | .local _ .vmem, ⟨7, _⟩ => ⟨S1x128x3072, .fp8e5m2⟩
  | .local _ .vmem, ⟨8, _⟩ => ⟨S1x128x3072, .fp8e5m2⟩
  | .local _ .vmem, ⟨9, _⟩ => ⟨S2x3072, .f32⟩
  | .local _ .vmem, ⟨10, _⟩ => ⟨S1x3x3072, .f32⟩
  | .local _ .vmem, ⟨11, _⟩ => ⟨S1x3x3072, .f32⟩
  | .local _ .vmem, ⟨12, _⟩ => ⟨S1x1x3x3072, .f32⟩
  | .local _ .vmem, ⟨13, _⟩ => ⟨S1x1x3x3072, .f32⟩
  | .local _ .vmem, ⟨14, _⟩ => ⟨S2x1024, .f32⟩
  | .local _ .vmem, ⟨15, _⟩ => ⟨S1x128x3072, .fp8e5m2⟩
  | .local _ .vmem, ⟨16, _⟩ => ⟨S1x128x3072, .fp8e5m2⟩
  | .local _ .smem, ⟨0, _⟩ => ⟨S1, .f32⟩
  | .local _ .smem, ⟨1, _⟩ => ⟨S1, .f32⟩
  | .local _ .smem, ⟨2, _⟩ => ⟨S1, .f32⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
def k0_cond1 (i : grid0.Coords) : BitVec 1 :=
  let arg1 : BitVec 32 := BitVec.ofNat 32 (i 1).val
  let c0_i32 : BitVec 32 := 0#32
  let v60 : BitVec 1 := Scalar.cmpi .eq arg1 c0_i32
  let v61 : BitVec 32 := Scalar.extui v60
  let c0_i32_27 : BitVec 32 := 0#32
  let v62 : BitVec 1 := Scalar.cmpi .ne v61 c0_i32_27
  v62

def k0_cond2 (i : grid0.Coords) : BitVec 1 :=
  let arg1 : BitVec 32 := BitVec.ofNat 32 (i 1).val
  let c0_i32_28 : BitVec 32 := 0#32
  let v63 : BitVec 1 := Scalar.cmpi .sgt arg1 c0_i32_28
  let v64 : BitVec 32 := Scalar.extui v63
  let c0_i32_29 : BitVec 32 := 0#32
  let v65 : BitVec 1 := Scalar.cmpi .ne v64 c0_i32_29
  v65

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x3072 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x3072 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x3x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x3072 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "inv_d" => some ((1 / 3072 : ℝ) : EReal)
  | _ => none
-- ==== ReferenceIdeal.lean ====
abbrev S2x1024x3072 : Shape := ⟨3, ![2, 1024, 3072]⟩
abbrev S2x1024 : Shape := ⟨2, ![2, 1024]⟩
abbrev S1 : Shape := ⟨1, ![1]⟩
abbrev S2x3072 : Shape := ⟨2, ![2, 3072]⟩
abbrev S2x3x3072 : Shape := ⟨3, ![2, 3, 3072]⟩
abbrev S2x8x3x3072 : Shape := ⟨4, ![2, 8, 3, 3072]⟩
abbrev S2x1024x1 : Shape := ⟨3, ![2, 1024, 1]⟩
abbrev S2x8x128x3072 : Shape := ⟨4, ![2, 8, 128, 3072]⟩
abbrev S1x1x1 : Shape := ⟨3, ![1, 1, 1]⟩
abbrev S2x8x128 : Shape := ⟨3, ![2, 8, 128]⟩
abbrev S2x8x128x1 : Shape := ⟨4, ![2, 8, 128, 1]⟩
abbrev S2x8x3072 : Shape := ⟨3, ![2, 8, 3072]⟩
abbrev S2x8x1x3072 : Shape := ⟨4, ![2, 8, 1, 3072]⟩
abbrev S2x1x1x3072 : Shape := ⟨4, ![2, 1, 1, 3072]⟩

abbrev nBuf : Space → Nat
  | .hbm => 13
  | .vmem => 13
  | .smem => 0
  | _ => 0

abbrev bufTy : (tb : Table) → Fin (tcTables nBuf tb) → BufTy
  | .hbm, ⟨0, _⟩ => ⟨S2x1024x3072, .fp8e4m3⟩
  | .hbm, ⟨1, _⟩ => ⟨S2x1024, .f32⟩
  | .hbm, ⟨2, _⟩ => ⟨S2x1024x3072, .bf16⟩
  | .hbm, ⟨3, _⟩ => ⟨S2x1024x3072, .fp8e5m2⟩
  | .hbm, ⟨4, _⟩ => ⟨S1, .f32⟩
  | .hbm, ⟨5, _⟩ => ⟨S2x1024x3072, .fp8e5m2⟩
  | .hbm, ⟨6, _⟩ => ⟨S1, .f32⟩
  | .hbm, ⟨7, _⟩ => ⟨S2x3072, .f32⟩
  | .hbm, ⟨8, _⟩ => ⟨S1, .f32⟩
  | .hbm, ⟨9, _⟩ => ⟨S2x3x3072, .f32⟩
  | .hbm, ⟨10, _⟩ => ⟨S2x8x3x3072, .f32⟩
  | .hbm, ⟨11, _⟩ => ⟨S2x1024, .f32⟩
  | .hbm, ⟨12, _⟩ => ⟨S2x1024x3072, .fp8e5m2⟩
  | .local _ .vmem, ⟨0, _⟩ => ⟨S2x1024x3072, .fp8e4m3⟩
  | .local _ .vmem, ⟨1, _⟩ => ⟨S2x1024, .f32⟩
  | .local _ .vmem, ⟨2, _⟩ => ⟨S2x1024x3072, .bf16⟩
  | .local _ .vmem, ⟨3, _⟩ => ⟨S2x1024x3072, .fp8e5m2⟩
  | .local _ .vmem, ⟨4, _⟩ => ⟨S1, .f32⟩
  | .local _ .vmem, ⟨5, _⟩ => ⟨S2x1024x3072, .fp8e5m2⟩
  | .local _ .vmem, ⟨6, _⟩ => ⟨S1, .f32⟩
  | .local _ .vmem, ⟨7, _⟩ => ⟨S2x3072, .f32⟩
  | .local _ .vmem, ⟨8, _⟩ => ⟨S1, .f32⟩
  | .local _ .vmem, ⟨9, _⟩ => ⟨S2x3x3072, .f32⟩
  | .local _ .vmem, ⟨10, _⟩ => ⟨S2x8x3x3072, .f32⟩
  | .local _ .vmem, ⟨11, _⟩ => ⟨S2x1024, .f32⟩
  | .local _ .vmem, ⟨12, _⟩ => ⟨S2x1024x3072, .fp8e5m2⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x1024x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x3072 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x3072 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x3x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x3x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024x3072 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.PrintedBody.lean ====
/- What one grid point of the kernel as printed does to its staging buffers, as triples: the sums block, the running
   sums, the absolute-maximum row and the quantized block are named over the point's input blocks. -/
module

public import proofs.«01_k».proof.Proof.Gen.Kernel.Frame
public import proofs.«01_k».proof.Proof.Gen.Kernel.Skeleton
public import Idealize.ShloMosaic.Lib.Pipeline.TableIdle
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 10 is never idle (an output stored at every point, under no condition). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x8080 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → cfg0.idle 9 (grid0.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → cfg0.fresh 9 t.val = false := by
  intro t; rw [fresh0_9_eq t]; revert t; decide +kernel

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x3072 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x3072 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x3x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x3072 .fp8e5m2 := win0_12.stage (cfg0.slots t 12)
abbrev hs0_12 (t : Fin cfg0.N) : (ms0_12 t).IsWhole := hstage0_12 ((cfg0.slots t 12).cast nbuf0_12)

/-! ## What one point computes -/

abbrev rTok : Rect S1x128x3072 := Rect.unit (s := S1x128x3072) ![0, 0, 0] S1x128x3072.size inb_S1x128x3072_S1x128x3072_0_0_0
abbrev rOne : Rect S1 := Rect.unit (s := S1) ![0] S1.size inb_S1_S1_0
abbrev rMod : Rect S2x3072 := Rect.unit (s := S2x3072) ![0, 0] S2x3072.size inb_S2x3072_S2x3072_0_0
abbrev rAcc : Rect S1x3x3072 := Rect.unit (s := S1x3x3072) ![0, 0, 0] S1x3x3072.size inb_S1x3x3072_S1x3x3072_0_0_0
abbrev rBlk : Rect S1x1x3x3072 := Rect.unit (s := S1x1x3x3072) ![0, 0, 0, 0] S1x1x3x3072.size inb_S1x1x3x3072_S1x1x3x3072_0_0_0_0
/-- The columns of the point's 128 rows in a whole `2 x 1024` row vector. -/
abbrev rCol (i : grid0.Coords) : Rect S2x1024 := Rect.unit (s := S2x1024) (k0_off1 i) S2x128.size (k0_off1_inb i)

/-- The one number a one-element block holds, as the scalar load reads it. -/
def one (x : Vec F S1 .f32) : Elt F .f32 := x (rOne.point numel1_S1)

/-- `rstd` of the point's rows. -/
def vRstd (i : grid0.Coords) (x3 : Vec F S1x128x3072 .fp8e4m3) (x4 : Vec F S2x1024 .f32) : FVec F S128x1 .f32 :=
  k0_pay3 i (View.ld x4 (rCol i)) (View.ld x3 rTok)
/-- `xhat` of the point's rows. -/
def vXhat (i : grid0.Coords) (x3 : Vec F S1x128x3072 .fp8e4m3) (x4 : Vec F S2x1024 .f32) : FVec F S128x3072 .f32 :=
  k0_pay4 i (View.ld x4 (rCol i)) (View.ld x3 rTok)
/-- `dh` of the point's rows. -/
def vDh (x1 : Vec F S1 .f32) (x7 : Vec F S1x128x3072 .fp8e5m2) : FVec F S128x3072 .f32 :=
  k0_pay5 (View.ld x7 rTok) (one x1)
/-- `dy` of the point's rows. -/
def vDy (x0 : Vec F S1 .f32) (x6 : Vec F S1x128x3072 .fp8e5m2) : FVec F S128x3072 .f32 :=
  k0_pay6 (View.ld x6 rTok) (one x0)
/-- `1 + mod_scale` of the point's batch row. -/
def vMod (i : grid0.Coords) (x8 : Vec F S2x3072 .f32) : FVec F S1x3072 .f32 :=
  k0_pay11 (BitVec.ofNat 32 (i 0).val) (View.ld x8 rMod)
/-- The point's three sums, as the block output stores them, -/
def vBlk (i : grid0.Coords) (x0 x1 : Vec F S1 .f32) (x3 : Vec F S1x128x3072 .fp8e4m3) (x4 : Vec F S2x1024 .f32) (x5 : Vec F S1x128x3072 .bf16) (x6 x7 : Vec F S1x128x3072 .fp8e5m2) : FVec F S1x1x3x3072 .f32 :=
  k0_pay8 (vXhat i x3 x4) (vDh x1 x7) (View.ld x6 rTok) (one x0) (View.ld x5 rTok)
/-- as the running sums start, -/
def vAccA (i : grid0.Coords) (x0 x1 : Vec F S1 .f32) (x3 : Vec F S1x128x3072 .fp8e4m3) (x4 : Vec F S2x1024 .f32) (x5 : Vec F S1x128x3072 .bf16) (x6 x7 : Vec F S1x128x3072 .fp8e5m2) : FVec F S1x3x3072 .f32 :=
  k0_pay9 (vXhat i x3 x4) (vDh x1 x7) (View.ld x6 rTok) (one x0) (View.ld x5 rTok)
/-- and added to the running sums `z`. -/
def vAccB (i : grid0.Coords) (x0 x1 : Vec F S1 .f32) (x3 : Vec F S1x128x3072 .fp8e4m3) (x4 : Vec F S2x1024 .f32) (x5 : Vec F S1x128x3072 .bf16) (x6 x7 : Vec F S1x128x3072 .fp8e5m2) (z : Vec F S1x3x3072 .f32) : FVec F S1x3x3072 .f32 :=
  k0_pay10 (vXhat i x3 x4) (vDh x1 x7) (View.ld x6 rTok) (one x0) (View.ld x5 rTok) (View.ld z rAcc)
/-- The two rows the point stores at its columns of the maximum: its own row the maxima, the other row what it held. -/
def vMaxAt (i : grid0.Coords) (x0 x1 : Vec F S1 .f32) (x3 : Vec F S1x128x3072 .fp8e4m3) (x4 : Vec F S2x1024 .f32) (x6 x7 : Vec F S1x128x3072 .fp8e5m2) (x8 : Vec F S2x3072 .f32) (w : Vec F S2x128 .f32) : FVec F S2x128 .f32 :=
  k0_pay13 (BitVec.ofNat 32 (i 0).val) (vRstd i x3 x4) (vXhat i x3 x4) (vDh x1 x7) (vDy x0 x6) (vMod i x8) w
/-- The whole `2 x 1024` maximum after the point, over what it held before. -/
def vMax (i : grid0.Coords) (x0 x1 : Vec F S1 .f32) (x3 : Vec F S1x128x3072 .fp8e4m3) (x4 : Vec F S2x1024 .f32) (x6 x7 : Vec F S1x128x3072 .fp8e5m2) (x8 : Vec F S2x3072 .f32) (z : Vec F S2x1024 .f32) : Vec F S2x1024 .f32 :=
  (rCol i).overlay z (vMaxAt i x0 x1 x3 x4 x6 x7 x8 (View.ld z (rCol i)))
/-- The quantized block. -/
def vCode (i : grid0.Coords) (x0 x1 x2 : Vec F S1 .f32) (x3 : Vec F S1x128x3072 .fp8e4m3) (x4 : Vec F S2x1024 .f32) (x6 x7 : Vec F S1x128x3072 .fp8e5m2) (x8 : Vec F S2x3072 .f32) : FVec F S1x128x3072 .fp8e5m2 :=
  k0_pay1 (k0_pay14 (vRstd i x3 x4) (vXhat i x3 x4) (vDh x1 x7) (vDy x0 x6) (vMod i x8) (one x2))

/-! ## The body's triple -/

/-- A buffer written once through a rectangle reads as what it held, overlaid by the payload. -/
theorem read_store_eq_overlay {κ : Kind} {sp : Space} {s : Shape} {e : EltTy} (v : View sig κ sp s e) (f : v.ty.Contents (Elt F)) (r : Rect s) (w : r.shape.Idx → Elt F e) :
    v.read (Elt F) (v.writes (Elt F) f [⟨r, w⟩]) = r.overlay (v.read (Elt F) f) w := by
  funext y
  by_cases hy : y ∈ r.set
  · obtain ⟨x, -, rfl⟩ := Finset.mem_map.mp (show y ∈ Finset.univ.map r.emb by rw [Rect.map_emb_univ]; exact hy)
    rw [Rect.overlay_emb, View.read_writes_cons_emb]
  · rw [Rect.overlay_of_not_mem _ _ _ hy, View.read_writes_cons_miss _ _ _ _ _ hy]; rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl
theorem cover_acc (p0 : Vec F S1x3x3072 .f32) (y : S1x3x3072.Idx) :
    ∃ pc ∈ ([⟨rAcc, p0⟩] : List (View.Piece (Elt F) S1x3x3072 .f32)), y ∈ pc.1.set :=
  View.cover_of_tiled [⟨rAcc, p0⟩] S1x3x3072.size (by rfl) y
theorem cover_blk (p0 : Vec F S1x1x3x3072 .f32) (y : S1x1x3x3072.Idx) :
    ∃ pc ∈ ([⟨rBlk, p0⟩] : List (View.Piece (Elt F) S1x1x3x3072 .f32)), y ∈ pc.1.set :=
  View.cover_of_tiled [⟨rBlk, p0⟩] S1x1x3x3072.size (by rfl) y
theorem cover_tok (p0 : Vec F S1x128x3072 .fp8e5m2) (y : S1x128x3072.Idx) :
    ∃ pc ∈ ([⟨rTok, p0⟩] : List (View.Piece (Elt F) S1x128x3072 .fp8e5m2)), y ∈ pc.1.set :=
  View.cover_of_tiled [⟨rTok, p0⟩] S1x128x3072.size (by rfl) y

set_option maxHeartbeats 1000000 in
/-- The body at the first point of a batch row: the sums start. -/
theorem run_A (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S1x128x3072 .fp8e4m3) (harg5 : arg5.IsWhole) (arg6 : Memref sig .tc .vmem S2x1024 .f32) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S2x3072 .f32) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S2x1024 .f32) (harg13 : arg13.IsWhole) (arg14 : Memref sig .tc .vmem S1x128x3072 .fp8e5m2) (harg14 : arg14.IsWhole) (hc0 : cond0_0 i) (hc1 : ¬cond0_1 i)
    (x0 x1 x2 : Vec F S1 .f32) (x3 : Vec F S1x128x3072 .fp8e4m3) (x4 : Vec F S2x1024 .f32) (x5 : Vec F S1x128x3072 .bf16) (x6 x7 : Vec F S1x128x3072 .fp8e5m2) (x8 : Vec F S2x3072 .f32) (z11 : Vec F S2x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare z11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (vAccA i x0 x1 x3 x4 x5 x6 x7) ∗ owns (c : Thread nD τ) arg12 fullShare (vBlk i x0 x1 x3 x4 x5 x6 x7) ∗ owns (c : Thread nD τ) arg13 fullShare (vMax i x0 x1 x3 x4 x6 x7 x8 z11) ∗ owns (c : Thread nD τ) arg14 fullShare (vCode i x0 x1 x2 x3 x4 x6 x7 x8)) -∗ K ⟨⟩))
      ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14) K := by
  simp only [cc0_adaln_bwd_eq_skeleton]; unfold cc0_adaln_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, Hk⟩
  subst hf0 hf1 hf2 hf3 hf4 hf5 hf6 hf7 hf8 hf11
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_acc _)).trans ?_
    rw [View.canon_unit_zero hz3]
    rfl
  isplitl [H10]
  · iexists _; isplitr
    swap; · iexact H10
    ipureintro
    refine (View.read_writes_eq_canon _ _ _ (cover_blk _)).trans ?_
    rw [View.canon_unit_zero hz4]
    rfl
  isplitl [H11]
  · iexists _; isplitr
    swap; · iexact H11
    ipureintro
    exact read_store_eq_overlay _ _ _ _
  iexists _; isplitr
  swap; · iexact H12
  ipureintro
  refine (View.read_writes_eq_canon _ _ _ (cover_tok _)).trans ?_
  rw [View.canon_unit_zero hz3]
  rfl

set_option maxHeartbeats 1000000 in
/-- The body at a later point of a batch row: the sums are added to what the buffer holds. -/
theorem run_B (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S1x128x3072 .fp8e4m3) (harg5 : arg5.IsWhole) (arg6 : Memref sig .tc .vmem S2x1024 .f32) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S2x3072 .f32) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S2x1024 .f32) (harg13 : arg13.IsWhole) (arg14 : Memref sig .tc .vmem S1x128x3072 .fp8e5m2) (harg14 : arg14.IsWhole) (hc0 : ¬cond0_0 i) (hc1 : cond0_1 i)
    (x0 x1 x2 : Vec F S1 .f32) (x3 : Vec F S1x128x3072 .fp8e4m3) (x4 : Vec F S2x1024 .f32) (x5 : Vec F S1x128x3072 .bf16) (x6 x7 : Vec F S1x128x3072 .fp8e5m2) (x8 : Vec F S2x3072 .f32) (z9 : Vec F S1x3x3072 .f32) (z11 : Vec F S2x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare z9 ∗ (∃ d, owns (c : Thread nD τ) arg12 fullShare d) ∗ owns (c : Thread nD τ) arg13 fullShare z11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (vAccB i x0 x1 x3 x4 x5 x6 x7 z9) ∗ owns (c : Thread nD τ) arg12 fullShare (vBlk i x0 x1 x3 x4 x5 x6 x7) ∗ owns (c : Thread nD τ) arg13 fullShare (vMax i x0 x1 x3 x4 x6 x7 x8 z11) ∗ owns (c : Thread nD τ) arg14 fullShare (vCode i x0 x1 x2 x3 x4 x6 x7 x8)) -∗ K ⟨⟩))
      ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14) K := by
  simp only [cc0_adaln_bwd_eq_skeleton]; unfold cc0_adaln_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
  subst hf0 hf1 hf2 hf3 hf4 hf5 hf6 hf7 hf8 hf9 hf11
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_acc _)).trans ?_
    rw [View.canon_unit_zero hz3]
    rfl
  isplitl [H10]
  · iexists _; isplitr
    swap; · iexact H10
    ipureintro
    refine (View.read_writes_eq_canon _ _ _ (cover_blk _)).trans ?_
    rw [View.canon_unit_zero hz4]
    rfl
  isplitl [H11]
  · iexists _; isplitr
    swap; · iexact H11
    ipureintro
    exact read_store_eq_overlay _ _ _ _
  iexists _; isplitr
  swap; · iexact H12
  ipureintro
  refine (View.read_writes_eq_canon _ _ _ (cover_tok _)).trans ?_
  rw [View.canon_unit_zero hz3]
  rfl

end Cert.Kernel.Hand

end
-- ==== Proof.PrintedRun.lean ====
/- The kernel as printed's run: what every point leaves in its staging buffers, over the blocks of the argument arrays,
   and from it what a final state holds. Three outputs are named exactly at every point. The maximum is held to a
   predicate (`Held`): a point stores one row of its columns and stores the other row back as it found it, so before the
   last point some rows are whatever the buffer held at the start. -/
module

public import proofs.«01_k».proof.Proof.PrintedBody
public import Idealize.ShloMosaic.Lib.Pipeline.DatRel
public import Idealize.ShloMosaic.Lib.Pipeline.ArrRel
public import Idealize.ShloMosaic.Lib.Pipeline.ValueKit.Geometry

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two rows stored at a point's columns -/

/-- The grid's first coordinate at a point. -/
theorem coord0 (t : Fin grid0.N) : (grid0.coords t 0).val = t.val / 8 := by
  have ht : t.val < 16 := Nat.lt_of_lt_of_eq t.isLt N_0
  have e0 : (grid0.coords t 0).val = t.val / 8 % 2 := Pipeline.Grid.coords_val t 0 (by decide) rfl
  omega
/-- The grid's second coordinate at a point. -/
theorem coord1 (t : Fin grid0.N) : (grid0.coords t 1).val = t.val % 8 := by
  have e1 : (grid0.coords t 1).val = t.val / 1 % 8 := Pipeline.Grid.coords_val t 1 (by decide) rfl
  omega
/-- The columns of a point's rows start at 128 times its second coordinate. -/
theorem off1_0 (t : Fin grid0.N) : k0_off1 (grid0.coords t) 0 = 0 := rfl
theorem off1_1 : ∀ t : Fin grid0.N, k0_off1 (grid0.coords t) 1 = t.val % 8 * 128 := by decide +kernel

/-- Two row numbers below two, compared as words, compare as numbers. -/
theorem row_word (a b : ℕ) (ha : a < 2) (hb : b < 2) : (IntOp.cmpi .eq (BitVec.ofNat 32 a) (BitVec.ofNat 32 b) = 1#1) ↔ a = b := by
  obtain rfl | rfl : a = 0 ∨ a = 1 := by omega
  all_goals (obtain rfl | rfl : b = 0 ∨ b = 1 := by omega)
  all_goals decide

/-- The stored rows at a row and column: the maxima on the point's own row, else what was there. -/
theorem vMaxAt_row (i : grid0.Coords) (x0 x1 : Vec F S1 .f32) (x3 : Vec F S1x128x3072 .fp8e4m3) (x4 : Vec F S2x1024 .f32) (x6 x7 : Vec F S1x128x3072 .fp8e5m2) (x8 : Vec F S2x3072 .f32) (w w' : Vec F S2x128 .f32) (y : S2x128.Idx)
    (h : (y 0).val = (i 0).val) : vMaxAt i x0 x1 x3 x4 x6 x7 x8 w y = vMaxAt i x0 x1 x3 x4 x6 x7 x8 w' y := by
  unfold vMaxAt k0_pay13
  dsimp only
  unfold select cmpi iota broadcast Scalar.select
  have e : (IntOp.cmpi .eq (BitVec.ofNat 32 (List.foldl (fun n a => n * S2x128.size a + (y a).val) 0 [0])) (BitVec.ofNat 32 (i 0).val) = 1) := by
    rw [show List.foldl (fun n a => n * S2x128.size a + (y a).val) 0 [0] = (y 0).val from by simp, h]
    exact (row_word _ _ (i 0).isLt (i 0).isLt).mpr rfl
  rw [if_pos e, if_pos e]
theorem vMaxAt_other (i : grid0.Coords) (x0 x1 : Vec F S1 .f32) (x3 : Vec F S1x128x3072 .fp8e4m3) (x4 : Vec F S2x1024 .f32) (x6 x7 : Vec F S1x128x3072 .fp8e5m2) (x8 : Vec F S2x3072 .f32) (w : Vec F S2x128 .f32) (y : S2x128.Idx)
    (h : (y 0).val ≠ (i 0).val) : vMaxAt i x0 x1 x3 x4 x6 x7 x8 w y = w y := by
  unfold vMaxAt k0_pay13
  dsimp only
  unfold select cmpi iota broadcast Scalar.select
  have e : ¬(IntOp.cmpi .eq (BitVec.ofNat 32 (List.foldl (fun n a => n * S2x128.size a + (y a).val) 0 [0])) (BitVec.ofNat 32 (i 0).val) = 1) := by
    rw [show List.foldl (fun n a => n * S2x128.size a + (y a).val) 0 [0] = (y 0).val from by simp]
    exact fun hh => h ((row_word _ _ (y 0).isLt (i 0).isLt).mp hh)
  rw [if_neg e, shapeCast_self]

/-! ## What the points leave -/

/-- The running sums after point `n`. -/
def sumsAt (c : Dev nD) : (n : ℕ) → n < cfg0.N → Vec F S1x3x3072 .f32
  | 0, h => vAccA (grid0.coords ⟨0, h⟩) (iblk m c 0 ⟨0, h⟩) (iblk m c 1 ⟨0, h⟩) (iblk m c 3 ⟨0, h⟩) (iblk m c 4 ⟨0, h⟩) (iblk m c 5 ⟨0, h⟩) (iblk m c 6 ⟨0, h⟩) (iblk m c 7 ⟨0, h⟩)
  | n + 1, h =>
    if (n + 1) % 8 = 0 then vAccA (grid0.coords ⟨n + 1, h⟩) (iblk m c 0 ⟨n + 1, h⟩) (iblk m c 1 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
    else vAccB (grid0.coords ⟨n + 1, h⟩) (iblk m c 0 ⟨n + 1, h⟩) (iblk m c 1 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (sumsAt c n (Nat.lt_of_succ_lt h))
theorem sumsAt_A (c : Dev nD) (t : Fin cfg0.N) (h0 : t.val % 8 = 0) :
    sumsAt m c t.val t.isLt = vAccA (grid0.coords t) (iblk m c 0 t) (iblk m c 1 t) (iblk m c 3 t) (iblk m c 4 t) (iblk m c 5 t) (iblk m c 6 t) (iblk m c 7 t) := by
  obtain ⟨n, hn⟩ := t
  cases n with
  | zero => simp only [sumsAt]
  | succ n => simp only [sumsAt]; rw [if_pos h0]
theorem sumsAt_B (c : Dev nD) (t : Fin cfg0.N) (h1 : 1 ≤ t.val % 8) :
    sumsAt m c t.val t.isLt = vAccB (grid0.coords t) (iblk m c 0 t) (iblk m c 1 t) (iblk m c 3 t) (iblk m c 4 t) (iblk m c 5 t) (iblk m c 6 t) (iblk m c 7 t) (sumsAt m c (t.val - 1) (lt_of_le_of_lt (Nat.sub_le _ _) t.isLt)) := by
  obtain ⟨n, hn⟩ := t
  cases n with
  | zero => exfalso; simp at h1
  | succ n =>
    have h0 : ¬((n + 1) % 8 = 0) := by simp only at h1; omega
    simp only [sumsAt]; rw [if_neg h0]; rfl
/-- The point's sums as the block output stores them. -/
def blkAt (c : Dev nD) (t : Fin cfg0.N) : Vec F S1x1x3x3072 .f32 := vBlk (grid0.coords t) (iblk m c 0 t) (iblk m c 1 t) (iblk m c 3 t) (iblk m c 4 t) (iblk m c 5 t) (iblk m c 6 t) (iblk m c 7 t)
/-- The point's quantized block. -/
def codeAt (c : Dev nD) (t : Fin cfg0.N) : Vec F S1x128x3072 .fp8e5m2 := vCode (grid0.coords t) (iblk m c 0 t) (iblk m c 1 t) (iblk m c 2 t) (iblk m c 3 t) (iblk m c 4 t) (iblk m c 6 t) (iblk m c 7 t) (iblk m c 8 t)
/-- The two rows a point stores, over a filler for the row that is not its own. -/
def maxAt (c : Dev nD) (s : Fin cfg0.N) : Vec F S2x128 .f32 :=
  vMaxAt (grid0.coords s) (iblk m c 0 s) (iblk m c 1 s) (iblk m c 3 s) (iblk m c 4 s) (iblk m c 6 s) (iblk m c 7 s) (iblk m c 8 s) (View.ld (iblk m c 4 s) (rCol (grid0.coords s)))
/-- The maximum's buffer after point `t`: the row segments of the points up to `t` are in place. -/
def Held (c : Dev nD) (t : Fin cfg0.N) (X : Vec F S2x1024 .f32) : Prop :=
  ∀ s : Fin cfg0.N, s.val ≤ t.val → ∀ y : S2x128.Idx, (y 0).val = s.val / 8 → X ((rCol (grid0.coords s)).emb y) = maxAt m c s y

/-- A point adds its own row segment and keeps the earlier ones. -/
theorem held_step (c : Dev nD) (t : Fin cfg0.N) (z : Vec F S2x1024 .f32)
    (hz : ∀ u : Fin cfg0.N, u.val + 1 = t.val → Held m c u z) :
    Held m c t (vMax (grid0.coords t) (iblk m c 0 t) (iblk m c 1 t) (iblk m c 3 t) (iblk m c 4 t) (iblk m c 6 t) (iblk m c 7 t) (iblk m c 8 t) z) := by
  intro s hs y hy
  unfold vMax
  by_cases hst : s = t
  · subst hst
    rw [Rect.overlay_emb]
    unfold maxAt
    exact vMaxAt_row _ _ _ _ _ _ _ _ _ _ y (by rw [coord0]; exact hy)
  · have hlt : s.val < t.val := lt_of_le_of_ne hs fun h => hst (Fin.ext h)
    have hprev : z ((rCol (grid0.coords s)).emb y) = maxAt m c s y :=
      hz ⟨t.val - 1, lt_of_le_of_lt (Nat.sub_le _ _) t.isLt⟩ (by show t.val - 1 + 1 = t.val; omega) s (by show s.val ≤ t.val - 1; omega) y hy
    by_cases hmem : (rCol (grid0.coords s)).emb y ∈ (rCol (grid0.coords t)).set
    · obtain ⟨x, -, hx⟩ := Finset.mem_map.mp (show (rCol (grid0.coords s)).emb y ∈ Finset.univ.map (rCol (grid0.coords t)).emb by rw [Rect.map_emb_univ]; exact hmem)
      rw [← hx, Rect.overlay_emb]
      have hx0 : (x 0).val = (y 0).val := by
        have := congrArg (fun q => (q 0).val) hx
        simp only [Rect.emb_apply] at this
        have e1 : k0_off1 (grid0.coords t) 0 + 1 * (x 0).val = k0_off1 (grid0.coords s) 0 + 1 * (y 0).val := this
        rw [off1_0, off1_0] at e1; omega
      have hcol : t.val % 8 = s.val % 8 := by
        have := congrArg (fun q => (q 1).val) hx
        simp only [Rect.emb_apply] at this
        have e1 : k0_off1 (grid0.coords t) 1 + 1 * (x 1).val = k0_off1 (grid0.coords s) 1 + 1 * (y 1).val := this
        rw [off1_1, off1_1] at e1
        have h1 : (x 1).val < 128 := (x 1).isLt
        have h2 : (y 1).val < 128 := (y 1).isLt
        omega
      rw [vMaxAt_other _ _ _ _ _ _ _ _ _ x (by rw [coord0, hx0, hy]; omega)]
      show z ((rCol (grid0.coords t)).emb x) = _
      rw [hx]; exact hprev
    · rw [Rect.overlay_of_not_mem _ _ _ hmem]; exact hprev

/-! ## The pipeline's proof data -/

/-- The window held to a predicate: the maximum. -/
def marked : Fin 13 → Bool := fun w => w.val == 11

/-- What each window holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => sumsAt m c t.val t.isLt
    | ⟨10, _⟩ => blkAt m c t
    | ⟨11, h⟩ => Pipeline.Dat.unnamed (cfg := cfg0) ⟨11, h⟩ t
    | ⟨12, _⟩ => codeAt m c t
  Φ _ := Pipeline.ΦA spec0 c
  q _ := fullShare
  owed _ := 0

/-- The predicate of the marked window. -/
def rel (c : Dev nD) (w : Fin cfg0.W) (t : Fin cfg0.N) (X : (cfg0.win w).block.Idx → Elt F (cfg0.win w).elt) : Prop :=
  match w, X with
  | ⟨11, _⟩, X => Held m c t X
  | _, _ => True

/-- The data with the maximum held to its predicate. -/
abbrev rdat (c : Dev nD) : RDat τ (Elt F) Unit ℕ (UR sig nD τ) ℕ cfg0 c := (dats m 0 c).toRRel marked (rel m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = sumsAt m c t.val t.isLt := by dsimp only [dats]
theorem after0_10 (c : Dev nD) (t : Fin cfg0.N) : (dats m 0 c).after 10 t = blkAt m c t := by dsimp only [dats]
theorem after0_12 (c : Dev nD) (t : Fin cfg0.N) : (dats m 0 c).after 12 t = codeAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The running sums' window is written back after the last point of each batch row only. -/
theorem flush11 : ∀ t : Fin cfg0.N, t.val ≠ 15 → ¬(cfg0.win 11).flush t = true := by decide +kernel
/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 16 := lt_of_lt_of_eq t.isLt (show cfg0.N = 16 from N_0)
  rw [after0_9, after0_9]
  by_cases h0 : t.val % 8 = 0
  · by_cases h1 : 1 ≤ t.val % 8
    · exfalso; omega
    · rw [liveAt0_9_A t ((hcond0_0 t).mpr h0) (fun h => h1 ((hcond0_1 t).mp h))] at hi
      exact absurd hi Bool.false_ne_true
  · by_cases h1 : 1 ≤ t.val % 8
    · rw [liveAt0_9_B t (fun h => h0 ((hcond0_0 t).mp h)) ((hcond0_1 t).mpr h1)] at hi
      exact absurd hi Bool.false_ne_true
    · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 8 = 0) (h1 : 1 ≤ t.val % 8) (d) :
    (dats m 0 c).before 9 t d = sumsAt m c (t.val - 1) (lt_of_le_of_lt (Nat.sub_le _ _) t.isLt) := by
  rw [Dat.before_out_traj _ 9 rfl (fun _ _ => rfl) (hcarry0_9 m c) t.val t rfl d,
    if_neg (by rw [notFresh0_9_B t (fun h => h0 ((hcond0_0 t).mp h)) ((hcond0_1 t).mpr h1)]; exact Bool.false_ne_true)]
  dsimp only [dats]

/-- What the body may find in the maximum's buffer after the first point: what the point before left. -/
theorem finds11 (c : Dev nD) (t : Fin cfg0.N) (Y : (cfg0.win 11).block.Idx → Elt F (cfg0.win 11).elt)
    (h : (rdat m c).Finds 11 t Y) (u : Fin cfg0.N) (hu : u.val + 1 = t.val) : Held m c u Y := by
  have ht : t.val ≠ 0 := by omega
  rcases (RDat.finds_of_pos (rd := rdat m c) (w := (11 : Fin cfg0.W)) rfl ht Y).mp h with hf | hl
  · exfalso
    exact flush11 ⟨t.val - 1, lt_of_le_of_lt (Nat.sub_le _ _) t.isLt⟩ (by have := Nat.lt_of_lt_of_eq t.isLt N_0; show t.val - 1 ≠ 15; omega) hf
  · have hu' : (⟨t.val - 1, lt_of_le_of_lt (Nat.sub_le _ _) t.isLt⟩ : Fin cfg0.N) = u := Fin.ext (by show t.val - 1 = u.val; omega)
    rw [hu'] at hl
    exact (dats m 0 c).toRRel_leaves (w := (11 : Fin cfg0.W)) rfl hl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdat m c).Finds 11 t Y⌝ ∗ owns (c : Thread nD τ) (ms0_11 t) fullShare Y)
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (∃ X, ⌜rel m c 11 t X⌝ ∗ owns (c : Thread nD τ) (ms0_11 t) fullShare X)
    ∗ (dats m 0 c).leaves 12 t)
theorem leaves0_0 (c : Dev nD) (t : Fin cfg0.N) : (dats m 0 c).leaves 0 t = owns (c : Thread nD τ) (ms0_0 t) fullShare ((dats m 0 c).after 0 t) := by
  unfold Dat.leaves; rw [liveAt0_0 t]
theorem leaves0_1 (c : Dev nD) (t : Fin cfg0.N) : (dats m 0 c).leaves 1 t = owns (c : Thread nD τ) (ms0_1 t) fullShare ((dats m 0 c).after 1 t) := by
  unfold Dat.leaves; rw [liveAt0_1 t]
theorem leaves0_2 (c : Dev nD) (t : Fin cfg0.N) : (dats m 0 c).leaves 2 t = owns (c : Thread nD τ) (ms0_2 t) fullShare ((dats m 0 c).after 2 t) := by
  unfold Dat.leaves; rw [liveAt0_2 t]
theorem leaves0_3 (c : Dev nD) (t : Fin cfg0.N) : (dats m 0 c).leaves 3 t = owns (c : Thread nD τ) (ms0_3 t) fullShare ((dats m 0 c).after 3 t) := by
  unfold Dat.leaves; rw [liveAt0_3 t]
theorem leaves0_4 (c : Dev nD) (t : Fin cfg0.N) : (dats m 0 c).leaves 4 t = owns (c : Thread nD τ) (ms0_4 t) fullShare ((dats m 0 c).after 4 t) := by
  unfold Dat.leaves; rw [liveAt0_4 t]
theorem leaves0_5 (c : Dev nD) (t : Fin cfg0.N) : (dats m 0 c).leaves 5 t = owns (c : Thread nD τ) (ms0_5 t) fullShare ((dats m 0 c).after 5 t) := by
  unfold Dat.leaves; rw [liveAt0_5 t]
theorem leaves0_6 (c : Dev nD) (t : Fin cfg0.N) : (dats m 0 c).leaves 6 t = owns (c : Thread nD τ) (ms0_6 t) fullShare ((dats m 0 c).after 6 t) := by
  unfold Dat.leaves; rw [liveAt0_6 t]
theorem leaves0_7 (c : Dev nD) (t : Fin cfg0.N) : (dats m 0 c).leaves 7 t = owns (c : Thread nD τ) (ms0_7 t) fullShare ((dats m 0 c).after 7 t) := by
  unfold Dat.leaves; rw [liveAt0_7 t]
theorem leaves0_8 (c : Dev nD) (t : Fin cfg0.N) : (dats m 0 c).leaves 8 t = owns (c : Thread nD τ) (ms0_8 t) fullShare ((dats m 0 c).after 8 t) := by
  unfold Dat.leaves; rw [liveAt0_8 t]
theorem leaves0_10 (c : Dev nD) (t : Fin cfg0.N) : (dats m 0 c).leaves 10 t = owns (c : Thread nD τ) (ms0_10 t) fullShare ((dats m 0 c).after 10 t) := by
  unfold Dat.leaves; rw [liveAt0_10 t]
theorem leaves0_12 (c : Dev nD) (t : Fin cfg0.N) : (dats m 0 c).leaves 12 t = owns (c : Thread nD τ) (ms0_12 t) fullShare ((dats m 0 c).after 12 t) := by
  unfold Dat.leaves; rw [liveAt0_12 t]
theorem leaves0_9 (c : Dev nD) (t : Fin cfg0.N) : (dats m 0 c).leaves 9 t = owns (c : Thread nD τ) (ms0_9 t) fullShare ((dats m 0 c).after 9 t) := by
  have hl : cfg0.idle 9 (cfg0.grid.coords t) = false := by
    by_cases h0 : t.val % 8 = 0
    · exact liveAt0_9_A t ((hcond0_0 t).mpr h0) fun h => by have := (hcond0_1 t).mp h; omega
    · exact liveAt0_9_B t (fun h => h0 ((hcond0_0 t).mp h)) ((hcond0_1 t).mpr (by omega))
  unfold Dat.leaves; rw [hl]

set_option maxHeartbeats 2400000 in
/-- The body at any point, by cases on whether it is the first of its batch row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  simp only [leaves0_0, leaves0_1, leaves0_2, leaves0_3, leaves0_4, leaves0_5, leaves0_6, leaves0_7, leaves0_8, leaves0_9, leaves0_10, leaves0_12,
    after0_0, after0_1, after0_2, after0_3, after0_4, after0_5, after0_6, after0_7, after0_8, after0_9, after0_10, after0_12]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 8 = 0
  · have h1 : ¬(1 ≤ t.val % 8) := by omega
    rw [sumsAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %hd11, H11⟩, ⟨%d12, H12⟩⟩
    iapply (run_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) d11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      swap; · iexact H11
      ipureintro; exact held_step m c t _ (fun u hu => finds11 m c t _ hd11 u hu)
    iexact H12
  · have h1 : 1 ≤ t.val % 8 := by omega
    rw [sumsAt_B m c t h1]
    simp only [before0_9_B m c t h0 h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %hd11, H11⟩, ⟨%d12, H12⟩⟩
    iapply (run_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (sumsAt m c (t.val - 1) (lt_of_le_of_lt (Nat.sub_le _ _) t.isLt)) d11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      swap; · iexact H11
      ipureintro; exact held_step m c t _ (fun u hu => finds11 m c t _ hd11 u hu)
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the maximum held to its predicate. -/
theorem body_obligation (c : Dev nD) : BodyObligationRel (dats (F := F) m 0 c) (defs₀ (F := F)) Variants.none () Set.univ marked (rel m c) := fun t => by
  rw [bigSep_W0, bigSep_W0, defs₀_row]
  exact triple_restated (sound_body m c t) rfl .rfl fun _ => .rfl

/-! ## The run and the frame -/

set_option backward.isDefEq.respectTransparency.types false in
/-- The launch: every array may hold what the data say, and every counter ends at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.Kernel.Hand

end
-- ==== Proof.PrintedFrame.lean ====
/- The kernel as printed's frame: the argument arrays end as they began, and every counter ends at zero. -/
module

public import proofs.«01_k».proof.Proof.PrintedRun
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays after the run, from a run to relational data whose arrays are the launch contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 6 rfl).trans ((hA c 6).trans (V_main_arg3 m c)),
      (Pipeline.RDat.FramePost.arr_in h c 0 rfl).trans ((hA c 0).trans (V_main_arg4 m c)),
      (Pipeline.RDat.FramePost.arr_in h c 7 rfl).trans ((hA c 7).trans (V_main_arg5 m c)),
      (Pipeline.RDat.FramePost.arr_in h c 1 rfl).trans ((hA c 1).trans (V_main_arg6 m c)),
      (Pipeline.RDat.FramePost.arr_in h c 8 rfl).trans ((hA c 8).trans (V_main_arg7 m c)),
      (Pipeline.RDat.FramePost.arr_in h c 2 rfl).trans ((hA c 2).trans (V_main_arg8 m c))⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (rdat m) (A_eq m) ((θ_run defs _ _).mono (fun _ h => h.1) (run_main_quiescent m ρ))

/-- The frame: the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Hand

end
-- ==== Proof.KernelBody.lean ====
/- What one grid point of the idealized kernel does to its staging buffers, as triples: the sums block, the running
   sums, the absolute-maximum row and the quantized block are named over the point's input blocks. -/
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 10 is never idle (an output stored at every point, under no condition). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x8080 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → cfg0.idle 9 (grid0.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → cfg0.fresh 9 t.val = false := by
  intro t; rw [fresh0_9_eq t]; revert t; decide +kernel

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x3072 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x3072 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x3x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x3072 .fp8e5m2 := win0_12.stage (cfg0.slots t 12)
abbrev hs0_12 (t : Fin cfg0.N) : (ms0_12 t).IsWhole := hstage0_12 ((cfg0.slots t 12).cast nbuf0_12)

/-! ## What one point computes -/

abbrev rTok : Rect S1x128x3072 := Rect.unit (s := S1x128x3072) ![0, 0, 0] S1x128x3072.size inb_S1x128x3072_S1x128x3072_0_0_0
abbrev rOne : Rect S1 := Rect.unit (s := S1) ![0] S1.size inb_S1_S1_0
abbrev rMod : Rect S2x3072 := Rect.unit (s := S2x3072) ![0, 0] S2x3072.size inb_S2x3072_S2x3072_0_0
abbrev rAcc : Rect S1x3x3072 := Rect.unit (s := S1x3x3072) ![0, 0, 0] S1x3x3072.size inb_S1x3x3072_S1x3x3072_0_0_0
abbrev rBlk : Rect S1x1x3x3072 := Rect.unit (s := S1x1x3x3072) ![0, 0, 0, 0] S1x1x3x3072.size inb_S1x1x3x3072_S1x1x3x3072_0_0_0_0
/-- The columns of the point's 128 rows in a whole `2 x 1024` row vector. -/
abbrev rCol (i : grid0.Coords) : Rect S2x1024 := Rect.unit (s := S2x1024) (k0_off1 i) S2x128.size (k0_off1_inb i)

/-- The one number a one-element block holds, as the scalar load reads it. -/
def one (x : Vec F S1 .f32) : Elt F .f32 := x (rOne.point numel1_S1)

/-- `rstd` of the point's rows. -/
def vRstd (i : grid0.Coords) (x3 : Vec F S1x128x3072 .fp8e4m3) (x4 : Vec F S2x1024 .f32) : FVec F S128x1 .f32 :=
  k0_pay3 i (View.ld x4 (rCol i)) (View.ld x3 rTok)
/-- `xhat` of the point's rows. -/
def vXhat (i : grid0.Coords) (x3 : Vec F S1x128x3072 .fp8e4m3) (x4 : Vec F S2x1024 .f32) : FVec F S128x3072 .f32 :=
  k0_pay4 i (View.ld x4 (rCol i)) (View.ld x3 rTok)
/-- `dh` of the point's rows. -/
def vDh (x1 : Vec F S1 .f32) (x7 : Vec F S1x128x3072 .fp8e5m2) : FVec F S128x3072 .f32 :=
  k0_pay5 (View.ld x7 rTok) (one x1)
/-- `dy` of the point's rows. -/
def vDy (x0 : Vec F S1 .f32) (x6 : Vec F S1x128x3072 .fp8e5m2) : FVec F S128x3072 .f32 :=
  k0_pay6 (View.ld x6 rTok) (one x0)
/-- `1 + mod_scale` of the point's batch row. -/
def vMod (i : grid0.Coords) (x8 : Vec F S2x3072 .f32) : FVec F S1x3072 .f32 :=
  k0_pay11 (BitVec.ofNat 32 (i 0).val) (View.ld x8 rMod)
/-- The point's three sums, as the block output stores them, -/
def vBlk (i : grid0.Coords) (x0 x1 : Vec F S1 .f32) (x3 : Vec F S1x128x3072 .fp8e4m3) (x4 : Vec F S2x1024 .f32) (x5 : Vec F S1x128x3072 .bf16) (x6 x7 : Vec F S1x128x3072 .fp8e5m2) : FVec F S1x1x3x3072 .f32 :=
  k0_pay8 (vXhat i x3 x4) (vDh x1 x7) (View.ld x6 rTok) (one x0) (View.ld x5 rTok)
/-- as the running sums start, -/
def vAccA (i : grid0.Coords) (x0 x1 : Vec F S1 .f32) (x3 : Vec F S1x128x3072 .fp8e4m3) (x4 : Vec F S2x1024 .f32) (x5 : Vec F S1x128x3072 .bf16) (x6 x7 : Vec F S1x128x3072 .fp8e5m2) : FVec F S1x3x3072 .f32 :=
  k0_pay9 (vXhat i x3 x4) (vDh x1 x7) (View.ld x6 rTok) (one x0) (View.ld x5 rTok)
/-- and added to the running sums `z`. -/
def vAccB (i : grid0.Coords) (x0 x1 : Vec F S1 .f32) (x3 : Vec F S1x128x3072 .fp8e4m3) (x4 : Vec F S2x1024 .f32) (x5 : Vec F S1x128x3072 .bf16) (x6 x7 : Vec F S1x128x3072 .fp8e5m2) (z : Vec F S1x3x3072 .f32) : FVec F S1x3x3072 .f32 :=
  k0_pay10 (vXhat i x3 x4) (vDh x1 x7) (View.ld x6 rTok) (one x0) (View.ld x5 rTok) (View.ld z rAcc)
/-- The two rows the point stores at its columns of the maximum: its own row the maxima, the other row what it held. -/
def vMaxAt (i : grid0.Coords) (x0 x1 : Vec F S1 .f32) (x3 : Vec F S1x128x3072 .fp8e4m3) (x4 : Vec F S2x1024 .f32) (x6 x7 : Vec F S1x128x3072 .fp8e5m2) (x8 : Vec F S2x3072 .f32) (w : Vec F S2x128 .f32) : FVec F S2x128 .f32 :=
  k0_pay13 (BitVec.ofNat 32 (i 0).val) (vRstd i x3 x4) (vXhat i x3 x4) (vDh x1 x7) (vDy x0 x6) (vMod i x8) w
/-- The whole `2 x 1024` maximum after the point, over what it held before. -/
def vMax (i : grid0.Coords) (x0 x1 : Vec F S1 .f32) (x3 : Vec F S1x128x3072 .fp8e4m3) (x4 : Vec F S2x1024 .f32) (x6 x7 : Vec F S1x128x3072 .fp8e5m2) (x8 : Vec F S2x3072 .f32) (z : Vec F S2x1024 .f32) : Vec F S2x1024 .f32 :=
  (rCol i).overlay z (vMaxAt i x0 x1 x3 x4 x6 x7 x8 (View.ld z (rCol i)))
/-- The quantized block. -/
def vCode (i : grid0.Coords) (x0 x1 x2 : Vec F S1 .f32) (x3 : Vec F S1x128x3072 .fp8e4m3) (x4 : Vec F S2x1024 .f32) (x6 x7 : Vec F S1x128x3072 .fp8e5m2) (x8 : Vec F S2x3072 .f32) : FVec F S1x128x3072 .fp8e5m2 :=
  k0_pay1 (k0_pay14 (vRstd i x3 x4) (vXhat i x3 x4) (vDh x1 x7) (vDy x0 x6) (vMod i x8) (one x2))

/-! ## The body's triple -/

/-- A buffer written once through a rectangle reads as what it held, overlaid by the payload. -/
theorem read_store_eq_overlay {κ : Kind} {sp : Space} {s : Shape} {e : EltTy} (v : View sig κ sp s e) (f : v.ty.Contents (Elt F)) (r : Rect s) (w : r.shape.Idx → Elt F e) :
    v.read (Elt F) (v.writes (Elt F) f [⟨r, w⟩]) = r.overlay (v.read (Elt F) f) w := by
  funext y
  by_cases hy : y ∈ r.set
  · obtain ⟨x, -, rfl⟩ := Finset.mem_map.mp (show y ∈ Finset.univ.map r.emb by rw [Rect.map_emb_univ]; exact hy)
    rw [Rect.overlay_emb, View.read_writes_cons_emb]
  · rw [Rect.overlay_of_not_mem _ _ _ hy, View.read_writes_cons_miss _ _ _ _ _ hy]; rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl
theorem cover_acc (p0 : Vec F S1x3x3072 .f32) (y : S1x3x3072.Idx) :
    ∃ pc ∈ ([⟨rAcc, p0⟩] : List (View.Piece (Elt F) S1x3x3072 .f32)), y ∈ pc.1.set :=
  View.cover_of_tiled [⟨rAcc, p0⟩] S1x3x3072.size (by rfl) y
theorem cover_blk (p0 : Vec F S1x1x3x3072 .f32) (y : S1x1x3x3072.Idx) :
    ∃ pc ∈ ([⟨rBlk, p0⟩] : List (View.Piece (Elt F) S1x1x3x3072 .f32)), y ∈ pc.1.set :=
  View.cover_of_tiled [⟨rBlk, p0⟩] S1x1x3x3072.size (by rfl) y
theorem cover_tok (p0 : Vec F S1x128x3072 .fp8e5m2) (y : S1x128x3072.Idx) :
    ∃ pc ∈ ([⟨rTok, p0⟩] : List (View.Piece (Elt F) S1x128x3072 .fp8e5m2)), y ∈ pc.1.set :=
  View.cover_of_tiled [⟨rTok, p0⟩] S1x128x3072.size (by rfl) y

set_option maxHeartbeats 1000000 in
/-- The body at the first point of a batch row: the sums start. -/
theorem run_A (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S1x128x3072 .fp8e4m3) (harg5 : arg5.IsWhole) (arg6 : Memref sig .tc .vmem S2x1024 .f32) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S2x3072 .f32) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S2x1024 .f32) (harg13 : arg13.IsWhole) (arg14 : Memref sig .tc .vmem S1x128x3072 .fp8e5m2) (harg14 : arg14.IsWhole) (hc0 : cond0_0 i) (hc1 : ¬cond0_1 i)
    (x0 x1 x2 : Vec F S1 .f32) (x3 : Vec F S1x128x3072 .fp8e4m3) (x4 : Vec F S2x1024 .f32) (x5 : Vec F S1x128x3072 .bf16) (x6 x7 : Vec F S1x128x3072 .fp8e5m2) (x8 : Vec F S2x3072 .f32) (z11 : Vec F S2x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare z11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (vAccA i x0 x1 x3 x4 x5 x6 x7) ∗ owns (c : Thread nD τ) arg12 fullShare (vBlk i x0 x1 x3 x4 x5 x6 x7) ∗ owns (c : Thread nD τ) arg13 fullShare (vMax i x0 x1 x3 x4 x6 x7 x8 z11) ∗ owns (c : Thread nD τ) arg14 fullShare (vCode i x0 x1 x2 x3 x4 x6 x7 x8)) -∗ K ⟨⟩))
      ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14) K := by
  simp only [cc0_adaln_bwd_eq_skeleton]; unfold cc0_adaln_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, Hk⟩
  subst hf0 hf1 hf2 hf3 hf4 hf5 hf6 hf7 hf8 hf11
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_acc _)).trans ?_
    rw [View.canon_unit_zero hz3]
    rfl
  isplitl [H10]
  · iexists _; isplitr
    swap; · iexact H10
    ipureintro
    refine (View.read_writes_eq_canon _ _ _ (cover_blk _)).trans ?_
    rw [View.canon_unit_zero hz4]
    rfl
  isplitl [H11]
  · iexists _; isplitr
    swap; · iexact H11
    ipureintro
    exact read_store_eq_overlay _ _ _ _
  iexists _; isplitr
  swap; · iexact H12
  ipureintro
  refine (View.read_writes_eq_canon _ _ _ (cover_tok _)).trans ?_
  rw [View.canon_unit_zero hz3]
  rfl

set_option maxHeartbeats 1000000 in
/-- The body at a later point of a batch row: the sums are added to what the buffer holds. -/
theorem run_B (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S1x128x3072 .fp8e4m3) (harg5 : arg5.IsWhole) (arg6 : Memref sig .tc .vmem S2x1024 .f32) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S2x3072 .f32) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S2x1024 .f32) (harg13 : arg13.IsWhole) (arg14 : Memref sig .tc .vmem S1x128x3072 .fp8e5m2) (harg14 : arg14.IsWhole) (hc0 : ¬cond0_0 i) (hc1 : cond0_1 i)
    (x0 x1 x2 : Vec F S1 .f32) (x3 : Vec F S1x128x3072 .fp8e4m3) (x4 : Vec F S2x1024 .f32) (x5 : Vec F S1x128x3072 .bf16) (x6 x7 : Vec F S1x128x3072 .fp8e5m2) (x8 : Vec F S2x3072 .f32) (z9 : Vec F S1x3x3072 .f32) (z11 : Vec F S2x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare z9 ∗ (∃ d, owns (c : Thread nD τ) arg12 fullShare d) ∗ owns (c : Thread nD τ) arg13 fullShare z11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (vAccB i x0 x1 x3 x4 x5 x6 x7 z9) ∗ owns (c : Thread nD τ) arg12 fullShare (vBlk i x0 x1 x3 x4 x5 x6 x7) ∗ owns (c : Thread nD τ) arg13 fullShare (vMax i x0 x1 x3 x4 x6 x7 x8 z11) ∗ owns (c : Thread nD τ) arg14 fullShare (vCode i x0 x1 x2 x3 x4 x6 x7 x8)) -∗ K ⟨⟩))
      ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14) K := by
  simp only [cc0_adaln_bwd_eq_skeleton]; unfold cc0_adaln_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
  subst hf0 hf1 hf2 hf3 hf4 hf5 hf6 hf7 hf8 hf9 hf11
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_acc _)).trans ?_
    rw [View.canon_unit_zero hz3]
    rfl
  isplitl [H10]
  · iexists _; isplitr
    swap; · iexact H10
    ipureintro
    refine (View.read_writes_eq_canon _ _ _ (cover_blk _)).trans ?_
    rw [View.canon_unit_zero hz4]
    rfl
  isplitl [H11]
  · iexists _; isplitr
    swap; · iexact H11
    ipureintro
    exact read_store_eq_overlay _ _ _ _
  iexists _; isplitr
  swap; · iexact H12
  ipureintro
  refine (View.read_writes_eq_canon _ _ _ (cover_tok _)).trans ?_
  rw [View.canon_unit_zero hz3]
  rfl

end Cert.KernelIdeal.Hand

end
-- ==== Proof.KernelRun.lean ====
/- The idealized kernel's run: what every point leaves in its staging buffers, over the blocks of the argument arrays,
   and from it what a final state holds. Three outputs are named exactly at every point. The maximum is held to a
   predicate (`Held`): a point stores one row of its columns and stores the other row back as it found it, so before the
   last point some rows are whatever the buffer held at the start. -/
module

public import proofs.«01_k».proof.Proof.KernelBody
public import Idealize.ShloMosaic.Lib.Pipeline.DatRel
public import Idealize.ShloMosaic.Lib.Pipeline.ArrRel
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two rows stored at a point's columns -/

/-- The grid's first coordinate at a point. -/
theorem coord0 (t : Fin grid0.N) : (grid0.coords t 0).val = t.val / 8 := by
  have ht : t.val < 16 := Nat.lt_of_lt_of_eq t.isLt N_0
  have e0 : (grid0.coords t 0).val = t.val / 8 % 2 := Pipeline.Grid.coords_val t 0 (by decide) rfl
  omega
/-- The grid's second coordinate at a point. -/
theorem coord1 (t : Fin grid0.N) : (grid0.coords t 1).val = t.val % 8 := by
  have e1 : (grid0.coords t 1).val = t.val / 1 % 8 := Pipeline.Grid.coords_val t 1 (by decide) rfl
  omega
/-- The columns of a point's rows start at 128 times its second coordinate. -/
theorem off1_0 (t : Fin grid0.N) : k0_off1 (grid0.coords t) 0 = 0 := rfl
theorem off1_1 : ∀ t : Fin grid0.N, k0_off1 (grid0.coords t) 1 = t.val % 8 * 128 := by decide +kernel

/-- Two row numbers below two, compared as words, compare as numbers. -/
theorem row_word (a b : ℕ) (ha : a < 2) (hb : b < 2) : (IntOp.cmpi .eq (BitVec.ofNat 32 a) (BitVec.ofNat 32 b) = 1#1) ↔ a = b := by
  obtain rfl | rfl : a = 0 ∨ a = 1 := by omega
  all_goals (obtain rfl | rfl : b = 0 ∨ b = 1 := by omega)
  all_goals decide

/-- The stored rows at a row and column: the maxima on the point's own row, else what was there. -/
theorem vMaxAt_row (i : grid0.Coords) (x0 x1 : Vec F S1 .f32) (x3 : Vec F S1x128x3072 .fp8e4m3) (x4 : Vec F S2x1024 .f32) (x6 x7 : Vec F S1x128x3072 .fp8e5m2) (x8 : Vec F S2x3072 .f32) (w w' : Vec F S2x128 .f32) (y : S2x128.Idx)
    (h : (y 0).val = (i 0).val) : vMaxAt i x0 x1 x3 x4 x6 x7 x8 w y = vMaxAt i x0 x1 x3 x4 x6 x7 x8 w' y := by
  unfold vMaxAt k0_pay13
  dsimp only
  unfold select cmpi iota broadcast Scalar.select
  have e : (IntOp.cmpi .eq (BitVec.ofNat 32 (List.foldl (fun n a => n * S2x128.size a + (y a).val) 0 [0])) (BitVec.ofNat 32 (i 0).val) = 1) := by
    rw [show List.foldl (fun n a => n * S2x128.size a + (y a).val) 0 [0] = (y 0).val from by simp, h]
    exact (row_word _ _ (i 0).isLt (i 0).isLt).mpr rfl
  rw [if_pos e, if_pos e]
theorem vMaxAt_other (i : grid0.Coords) (x0 x1 : Vec F S1 .f32) (x3 : Vec F S1x128x3072 .fp8e4m3) (x4 : Vec F S2x1024 .f32) (x6 x7 : Vec F S1x128x3072 .fp8e5m2) (x8 : Vec F S2x3072 .f32) (w : Vec F S2x128 .f32) (y : S2x128.Idx)
    (h : (y 0).val ≠ (i 0).val) : vMaxAt i x0 x1 x3 x4 x6 x7 x8 w y = w y := by
  unfold vMaxAt k0_pay13
  dsimp only
  unfold select cmpi iota broadcast Scalar.select
  have e : ¬(IntOp.cmpi .eq (BitVec.ofNat 32 (List.foldl (fun n a => n * S2x128.size a + (y a).val) 0 [0])) (BitVec.ofNat 32 (i 0).val) = 1) := by
    rw [show List.foldl (fun n a => n * S2x128.size a + (y a).val) 0 [0] = (y 0).val from by simp]
    exact fun hh => h ((row_word _ _ (y 0).isLt (i 0).isLt).mp hh)
  rw [if_neg e, shapeCast_self]

/-! ## What the points leave -/

/-- The running sums after point `n`. -/
def sumsAt (c : Dev nD) : (n : ℕ) → n < cfg0.N → Vec F S1x3x3072 .f32
  | 0, h => vAccA (grid0.coords ⟨0, h⟩) (iblk m c 0 ⟨0, h⟩) (iblk m c 1 ⟨0, h⟩) (iblk m c 3 ⟨0, h⟩) (iblk m c 4 ⟨0, h⟩) (iblk m c 5 ⟨0, h⟩) (iblk m c 6 ⟨0, h⟩) (iblk m c 7 ⟨0, h⟩)
  | n + 1, h =>
    if (n + 1) % 8 = 0 then vAccA (grid0.coords ⟨n + 1, h⟩) (iblk m c 0 ⟨n + 1, h⟩) (iblk m c 1 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
    else vAccB (grid0.coords ⟨n + 1, h⟩) (iblk m c 0 ⟨n + 1, h⟩) (iblk m c 1 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (sumsAt c n (Nat.lt_of_succ_lt h))
theorem sumsAt_A (c : Dev nD) (t : Fin cfg0.N) (h0 : t.val % 8 = 0) :
    sumsAt m c t.val t.isLt = vAccA (grid0.coords t) (iblk m c 0 t) (iblk m c 1 t) (iblk m c 3 t) (iblk m c 4 t) (iblk m c 5 t) (iblk m c 6 t) (iblk m c 7 t) := by
  obtain ⟨n, hn⟩ := t
  cases n with
  | zero => simp only [sumsAt]
  | succ n => simp only [sumsAt]; rw [if_pos h0]
theorem sumsAt_B (c : Dev nD) (t : Fin cfg0.N) (h1 : 1 ≤ t.val % 8) :
    sumsAt m c t.val t.isLt = vAccB (grid0.coords t) (iblk m c 0 t) (iblk m c 1 t) (iblk m c 3 t) (iblk m c 4 t) (iblk m c 5 t) (iblk m c 6 t) (iblk m c 7 t) (sumsAt m c (t.val - 1) (lt_of_le_of_lt (Nat.sub_le _ _) t.isLt)) := by
  obtain ⟨n, hn⟩ := t
  cases n with
  | zero => exfalso; simp at h1
  | succ n =>
    have h0 : ¬((n + 1) % 8 = 0) := by simp only at h1; omega
    simp only [sumsAt]; rw [if_neg h0]; rfl
/-- The point's sums as the block output stores them. -/
def blkAt (c : Dev nD) (t : Fin cfg0.N) : Vec F S1x1x3x3072 .f32 := vBlk (grid0.coords t) (iblk m c 0 t) (iblk m c 1 t) (iblk m c 3 t) (iblk m c 4 t) (iblk m c 5 t) (iblk m c 6 t) (iblk m c 7 t)
/-- The point's quantized block. -/
def codeAt (c : Dev nD) (t : Fin cfg0.N) : Vec F S1x128x3072 .fp8e5m2 := vCode (grid0.coords t) (iblk m c 0 t) (iblk m c 1 t) (iblk m c 2 t) (iblk m c 3 t) (iblk m c 4 t) (iblk m c 6 t) (iblk m c 7 t) (iblk m c 8 t)
/-- The two rows a point stores, over a filler for the row that is not its own. -/
def maxAt (c : Dev nD) (s : Fin cfg0.N) : Vec F S2x128 .f32 :=
  vMaxAt (grid0.coords s) (iblk m c 0 s) (iblk m c 1 s) (iblk m c 3 s) (iblk m c 4 s) (iblk m c 6 s) (iblk m c 7 s) (iblk m c 8 s) (View.ld (iblk m c 4 s) (rCol (grid0.coords s)))
/-- The maximum's buffer after point `t`: the row segments of the points up to `t` are in place. -/
def Held (c : Dev nD) (t : Fin cfg0.N) (X : Vec F S2x1024 .f32) : Prop :=
  ∀ s : Fin cfg0.N, s.val ≤ t.val → ∀ y : S2x128.Idx, (y 0).val = s.val / 8 → X ((rCol (grid0.coords s)).emb y) = maxAt m c s y

/-- A point adds its own row segment and keeps the earlier ones. -/
theorem held_step (c : Dev nD) (t : Fin cfg0.N) (z : Vec F S2x1024 .f32)
    (hz : ∀ u : Fin cfg0.N, u.val + 1 = t.val → Held m c u z) :
    Held m c t (vMax (grid0.coords t) (iblk m c 0 t) (iblk m c 1 t) (iblk m c 3 t) (iblk m c 4 t) (iblk m c 6 t) (iblk m c 7 t) (iblk m c 8 t) z) := by
  intro s hs y hy
  unfold vMax
  by_cases hst : s = t
  · subst hst
    rw [Rect.overlay_emb]
    unfold maxAt
    exact vMaxAt_row _ _ _ _ _ _ _ _ _ _ y (by rw [coord0]; exact hy)
  · have hlt : s.val < t.val := lt_of_le_of_ne hs fun h => hst (Fin.ext h)
    have hprev : z ((rCol (grid0.coords s)).emb y) = maxAt m c s y :=
      hz ⟨t.val - 1, lt_of_le_of_lt (Nat.sub_le _ _) t.isLt⟩ (by show t.val - 1 + 1 = t.val; omega) s (by show s.val ≤ t.val - 1; omega) y hy
    by_cases hmem : (rCol (grid0.coords s)).emb y ∈ (rCol (grid0.coords t)).set
    · obtain ⟨x, -, hx⟩ := Finset.mem_map.mp (show (rCol (grid0.coords s)).emb y ∈ Finset.univ.map (rCol (grid0.coords t)).emb by rw [Rect.map_emb_univ]; exact hmem)
      rw [← hx, Rect.overlay_emb]
      have hx0 : (x 0).val = (y 0).val := by
        have := congrArg (fun q => (q 0).val) hx
        simp only [Rect.emb_apply] at this
        have e1 : k0_off1 (grid0.coords t) 0 + 1 * (x 0).val = k0_off1 (grid0.coords s) 0 + 1 * (y 0).val := this
        rw [off1_0, off1_0] at e1; omega
      have hcol : t.val % 8 = s.val % 8 := by
        have := congrArg (fun q => (q 1).val) hx
        simp only [Rect.emb_apply] at this
        have e1 : k0_off1 (grid0.coords t) 1 + 1 * (x 1).val = k0_off1 (grid0.coords s) 1 + 1 * (y 1).val := this
        rw [off1_1, off1_1] at e1
        have h1 : (x 1).val < 128 := (x 1).isLt
        have h2 : (y 1).val < 128 := (y 1).isLt
        omega
      rw [vMaxAt_other _ _ _ _ _ _ _ _ _ x (by rw [coord0, hx0, hy]; omega)]
      show z ((rCol (grid0.coords t)).emb x) = _
      rw [hx]; exact hprev
    · rw [Rect.overlay_of_not_mem _ _ _ hmem]; exact hprev

/-! ## The pipeline's proof data -/

/-- The window held to a predicate: the maximum. -/
def marked : Fin 13 → Bool := fun w => w.val == 11

/-- What each window holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => sumsAt m c t.val t.isLt
    | ⟨10, _⟩ => blkAt m c t
    | ⟨11, h⟩ => Pipeline.Dat.unnamed (cfg := cfg0) ⟨11, h⟩ t
    | ⟨12, _⟩ => codeAt m c t
  Φ _ := Pipeline.ΦA spec0 c
  q _ := fullShare
  owed _ := 0

/-- The predicate of the marked window. -/
def rel (c : Dev nD) (w : Fin cfg0.W) (t : Fin cfg0.N) (X : (cfg0.win w).block.Idx → Elt F (cfg0.win w).elt) : Prop :=
  match w, X with
  | ⟨11, _⟩, X => Held m c t X
  | _, _ => True

/-- The data with the maximum held to its predicate. -/
abbrev rdat (c : Dev nD) : RDat τ (Elt F) Unit ℕ (UR sig nD τ) ℕ cfg0 c := (dats m 0 c).toRRel marked (rel m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = sumsAt m c t.val t.isLt := by dsimp only [dats]
theorem after0_10 (c : Dev nD) (t : Fin cfg0.N) : (dats m 0 c).after 10 t = blkAt m c t := by dsimp only [dats]
theorem after0_12 (c : Dev nD) (t : Fin cfg0.N) : (dats m 0 c).after 12 t = codeAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The running sums' window is written back after the last point of each batch row only. -/
theorem flush11 : ∀ t : Fin cfg0.N, t.val ≠ 15 → ¬(cfg0.win 11).flush t = true := by decide +kernel
/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 16 := lt_of_lt_of_eq t.isLt (show cfg0.N = 16 from N_0)
  rw [after0_9, after0_9]
  by_cases h0 : t.val % 8 = 0
  · by_cases h1 : 1 ≤ t.val % 8
    · exfalso; omega
    · rw [liveAt0_9_A t ((hcond0_0 t).mpr h0) (fun h => h1 ((hcond0_1 t).mp h))] at hi
      exact absurd hi Bool.false_ne_true
  · by_cases h1 : 1 ≤ t.val % 8
    · rw [liveAt0_9_B t (fun h => h0 ((hcond0_0 t).mp h)) ((hcond0_1 t).mpr h1)] at hi
      exact absurd hi Bool.false_ne_true
    · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 8 = 0) (h1 : 1 ≤ t.val % 8) (d) :
    (dats m 0 c).before 9 t d = sumsAt m c (t.val - 1) (lt_of_le_of_lt (Nat.sub_le _ _) t.isLt) := by
  rw [Dat.before_out_traj _ 9 rfl (fun _ _ => rfl) (hcarry0_9 m c) t.val t rfl d,
    if_neg (by rw [notFresh0_9_B t (fun h => h0 ((hcond0_0 t).mp h)) ((hcond0_1 t).mpr h1)]; exact Bool.false_ne_true)]
  dsimp only [dats]

/-- What the body may find in the maximum's buffer after the first point: what the point before left. -/
theorem finds11 (c : Dev nD) (t : Fin cfg0.N) (Y : (cfg0.win 11).block.Idx → Elt F (cfg0.win 11).elt)
    (h : (rdat m c).Finds 11 t Y) (u : Fin cfg0.N) (hu : u.val + 1 = t.val) : Held m c u Y := by
  have ht : t.val ≠ 0 := by omega
  rcases (RDat.finds_of_pos (rd := rdat m c) (w := (11 : Fin cfg0.W)) rfl ht Y).mp h with hf | hl
  · exfalso
    exact flush11 ⟨t.val - 1, lt_of_le_of_lt (Nat.sub_le _ _) t.isLt⟩ (by have := Nat.lt_of_lt_of_eq t.isLt N_0; show t.val - 1 ≠ 15; omega) hf
  · have hu' : (⟨t.val - 1, lt_of_le_of_lt (Nat.sub_le _ _) t.isLt⟩ : Fin cfg0.N) = u := Fin.ext (by show t.val - 1 = u.val; omega)
    rw [hu'] at hl
    exact (dats m 0 c).toRRel_leaves (w := (11 : Fin cfg0.W)) rfl hl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdat m c).Finds 11 t Y⌝ ∗ owns (c : Thread nD τ) (ms0_11 t) fullShare Y)
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (∃ X, ⌜rel m c 11 t X⌝ ∗ owns (c : Thread nD τ) (ms0_11 t) fullShare X)
    ∗ (dats m 0 c).leaves 12 t)
theorem leaves0_0 (c : Dev nD) (t : Fin cfg0.N) : (dats m 0 c).leaves 0 t = owns (c : Thread nD τ) (ms0_0 t) fullShare ((dats m 0 c).after 0 t) := by
  unfold Dat.leaves; rw [liveAt0_0 t]
theorem leaves0_1 (c : Dev nD) (t : Fin cfg0.N) : (dats m 0 c).leaves 1 t = owns (c : Thread nD τ) (ms0_1 t) fullShare ((dats m 0 c).after 1 t) := by
  unfold Dat.leaves; rw [liveAt0_1 t]
theorem leaves0_2 (c : Dev nD) (t : Fin cfg0.N) : (dats m 0 c).leaves 2 t = owns (c : Thread nD τ) (ms0_2 t) fullShare ((dats m 0 c).after 2 t) := by
  unfold Dat.leaves; rw [liveAt0_2 t]
theorem leaves0_3 (c : Dev nD) (t : Fin cfg0.N) : (dats m 0 c).leaves 3 t = owns (c : Thread nD τ) (ms0_3 t) fullShare ((dats m 0 c).after 3 t) := by
  unfold Dat.leaves; rw [liveAt0_3 t]
theorem leaves0_4 (c : Dev nD) (t : Fin cfg0.N) : (dats m 0 c).leaves 4 t = owns (c : Thread nD τ) (ms0_4 t) fullShare ((dats m 0 c).after 4 t) := by
  unfold Dat.leaves; rw [liveAt0_4 t]
theorem leaves0_5 (c : Dev nD) (t : Fin cfg0.N) : (dats m 0 c).leaves 5 t = owns (c : Thread nD τ) (ms0_5 t) fullShare ((dats m 0 c).after 5 t) := by
  unfold Dat.leaves; rw [liveAt0_5 t]
theorem leaves0_6 (c : Dev nD) (t : Fin cfg0.N) : (dats m 0 c).leaves 6 t = owns (c : Thread nD τ) (ms0_6 t) fullShare ((dats m 0 c).after 6 t) := by
  unfold Dat.leaves; rw [liveAt0_6 t]
theorem leaves0_7 (c : Dev nD) (t : Fin cfg0.N) : (dats m 0 c).leaves 7 t = owns (c : Thread nD τ) (ms0_7 t) fullShare ((dats m 0 c).after 7 t) := by
  unfold Dat.leaves; rw [liveAt0_7 t]
theorem leaves0_8 (c : Dev nD) (t : Fin cfg0.N) : (dats m 0 c).leaves 8 t = owns (c : Thread nD τ) (ms0_8 t) fullShare ((dats m 0 c).after 8 t) := by
  unfold Dat.leaves; rw [liveAt0_8 t]
theorem leaves0_10 (c : Dev nD) (t : Fin cfg0.N) : (dats m 0 c).leaves 10 t = owns (c : Thread nD τ) (ms0_10 t) fullShare ((dats m 0 c).after 10 t) := by
  unfold Dat.leaves; rw [liveAt0_10 t]
theorem leaves0_12 (c : Dev nD) (t : Fin cfg0.N) : (dats m 0 c).leaves 12 t = owns (c : Thread nD τ) (ms0_12 t) fullShare ((dats m 0 c).after 12 t) := by
  unfold Dat.leaves; rw [liveAt0_12 t]
theorem leaves0_9 (c : Dev nD) (t : Fin cfg0.N) : (dats m 0 c).leaves 9 t = owns (c : Thread nD τ) (ms0_9 t) fullShare ((dats m 0 c).after 9 t) := by
  have hl : cfg0.idle 9 (cfg0.grid.coords t) = false := by
    by_cases h0 : t.val % 8 = 0
    · exact liveAt0_9_A t ((hcond0_0 t).mpr h0) fun h => by have := (hcond0_1 t).mp h; omega
    · exact liveAt0_9_B t (fun h => h0 ((hcond0_0 t).mp h)) ((hcond0_1 t).mpr (by omega))
  unfold Dat.leaves; rw [hl]

set_option maxHeartbeats 2400000 in
/-- The body at any point, by cases on whether it is the first of its batch row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  simp only [leaves0_0, leaves0_1, leaves0_2, leaves0_3, leaves0_4, leaves0_5, leaves0_6, leaves0_7, leaves0_8, leaves0_9, leaves0_10, leaves0_12,
    after0_0, after0_1, after0_2, after0_3, after0_4, after0_5, after0_6, after0_7, after0_8, after0_9, after0_10, after0_12]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 8 = 0
  · have h1 : ¬(1 ≤ t.val % 8) := by omega
    rw [sumsAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %hd11, H11⟩, ⟨%d12, H12⟩⟩
    iapply (run_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) d11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      swap; · iexact H11
      ipureintro; exact held_step m c t _ (fun u hu => finds11 m c t _ hd11 u hu)
    iexact H12
  · have h1 : 1 ≤ t.val % 8 := by omega
    rw [sumsAt_B m c t h1]
    simp only [before0_9_B m c t h0 h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %hd11, H11⟩, ⟨%d12, H12⟩⟩
    iapply (run_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (sumsAt m c (t.val - 1) (lt_of_le_of_lt (Nat.sub_le _ _) t.isLt)) d11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      swap; · iexact H11
      ipureintro; exact held_step m c t _ (fun u hu => finds11 m c t _ hd11 u hu)
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the maximum held to its predicate. -/
theorem body_obligation (c : Dev nD) : BodyObligationRel (dats (F := F) m 0 c) (defs₀ (F := F)) Variants.none () Set.univ marked (rel m c) := fun t => by
  rw [bigSep_W0, bigSep_W0, defs₀_row]
  exact triple_restated (sound_body m c t) rfl .rfl fun _ => .rfl

/-! ## The run and the frame -/

set_option backward.isDefEq.respectTransparency.types false in
/-- The launch: every array may hold what the data say, and every counter ends at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.KernelFrame.lean ====
/- The idealized kernel's frame: the argument arrays end as they began, and every counter ends at zero. -/
module

public import proofs.«01_k».proof.Proof.KernelRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays after the run, from a run to relational data whose arrays are the launch contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 6 rfl).trans ((hA c 6).trans (V_main_arg3 m c)),
      (Pipeline.RDat.FramePost.arr_in h c 0 rfl).trans ((hA c 0).trans (V_main_arg4 m c)),
      (Pipeline.RDat.FramePost.arr_in h c 7 rfl).trans ((hA c 7).trans (V_main_arg5 m c)),
      (Pipeline.RDat.FramePost.arr_in h c 1 rfl).trans ((hA c 1).trans (V_main_arg6 m c)),
      (Pipeline.RDat.FramePost.arr_in h c 8 rfl).trans ((hA c 8).trans (V_main_arg7 m c)),
      (Pipeline.RDat.FramePost.arr_in h c 2 rfl).trans ((hA c 2).trans (V_main_arg8 m c))⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (rdat m) (A_eq m) ((θ_run defs _ _).mono (fun _ h => h.1) (run_main_quiescent m ρ))

/-- The frame: the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Hand

end
-- ==== Proof.RowMath.lean ====
/- The arithmetic of one row of 3072 entries over the extended reals, which the kernel and the reference share. -/
module

public import Idealize.ShloMosaic.Lib.Pointwise

@[expose] public section

noncomputable section

namespace Cert.Row

open Idealize.ShloMosaic

/-- One over the row length. -/
abbrev invD : EReal := ((1 / 3072 : ℝ) : EReal)

/-- A row with its mean taken away. -/
def ctr (x : Fin 3072 → EReal) (k : Fin 3072) : EReal := x k - (∑ l, x l) * invD

/-- One over the standard deviation of a row. -/
def rstd (x : Fin 3072 → EReal) : EReal :=
  Ideal.rsqrt ((∑ k, ctr x k * ctr x k) * invD + Ideal.ofBits .f32 0x358637BD#32)

/-- The normalized row. -/
def hat (x : Fin 3072 → EReal) (k : Fin 3072) : EReal := ctr x k * rstd x

/-- The input gradient of a row: `x` the row, `h` the gradient of the modulated output, `y` the gradient that passes
    by, `s` the modulation. -/
def dx (x h y s : Fin 3072 → EReal) (k : Fin 3072) : EReal :=
  y k + rstd x * (h k * s k - (∑ l, h l * s l) * invD - hat x k * ((∑ l, h l * s l * hat x l) * invD))

/-- The pattern of 3072.0 denotes 3072. -/
theorem ofBits_3072 : Ideal.ofBits .f32 0x45400000#32 = ((3072 : ℝ) : EReal) := by
  simp [Ideal.ofBits, Ideal.ieee, -EReal.coe_mul]; norm_num

/-- Dividing by the row length is multiplying by its reciprocal. -/
theorem div_3072 (a : EReal) : Ideal.div a (Ideal.ofBits .f32 0x45400000#32) = a * invD := by
  rw [ofBits_3072, Ideal.div_coe (by norm_num : (3072 : ℝ) ≠ 0)]

/-- The row of a two-row table that a word names, picked out by a masked sum over the rows. -/
theorem pick (b : Fin 2) (f : Fin 2 → EReal) :
    ∑ x : Fin 2, Scalar.select (IntOp.cmpi CmpIPredicate.eq (BitVec.ofNat 32 x.val) (BitVec.ofNat 32 b.val)) (f x) 0 = f b := by
  rw [Fin.sum_univ_two]
  obtain rfl | rfl : b = 0 ∨ b = 1 := by omega
  · have h0 : IntOp.cmpi CmpIPredicate.eq (BitVec.ofNat 32 (0 : Fin 2).val) (BitVec.ofNat 32 (0 : Fin 2).val) = 1#1 := by decide
    have h1 : IntOp.cmpi CmpIPredicate.eq (BitVec.ofNat 32 (1 : Fin 2).val) (BitVec.ofNat 32 (0 : Fin 2).val) = 0#1 := by decide
    rw [h0, h1]; exact add_zero _
  · have h0 : IntOp.cmpi CmpIPredicate.eq (BitVec.ofNat 32 (0 : Fin 2).val) (BitVec.ofNat 32 (1 : Fin 2).val) = 0#1 := by decide
    have h1 : IntOp.cmpi CmpIPredicate.eq (BitVec.ofNat 32 (1 : Fin 2).val) (BitVec.ofNat 32 (1 : Fin 2).val) = 1#1 := by decide
    rw [h0, h1]; exact zero_add _

/-! ## The four results as functions of the nine arguments -/

/-- An array of extended reals. -/
abbrev Arr (s : Shape) : Type := s.Idx → EReal

abbrev A3 : Shape := ⟨3, ![2, 1024, 3072]⟩
abbrev A2 : Shape := ⟨2, ![2, 1024]⟩
abbrev A1 : Shape := ⟨1, ![1]⟩
abbrev M2 : Shape := ⟨2, ![2, 3072]⟩

/-- A quantized row times its own scale. -/
def xRow (a : Arr A3) (s : Arr A2) (b : Fin 2) (t : Fin 1024) (k : Fin 3072) : EReal := a (ix3 b t k) * s (ix2 b t)

/-- A quantized row times the scale of its whole array. -/
def gRow (a : Arr A3) (s : Arr A1) (b : Fin 2) (t : Fin 1024) (k : Fin 3072) : EReal := a (ix3 b t k) * s (ix1 0)

/-- The modulation of one batch entry. -/
def sRow (m : Arr M2) (b : Fin 2) (k : Fin 3072) : EReal := 1 + m (ix2 b k)

/-- The row a token block and a row in it name. -/
def tok (j : Fin 8) (r : Fin 128) : Fin 1024 := ⟨j.val * 128 + r.val, by omega⟩

section
variable (a0 : Arr A3) (a1 : Arr A2) (a2 a3 : Arr A3) (a4 : Arr A1) (a5 : Arr A3) (a6 : Arr A1) (a7 : Arr M2) (a8 : Arr A1)

/-- The input gradient of row `t` of batch entry `b`. -/
def dxAt (b : Fin 2) (t : Fin 1024) (k : Fin 3072) : EReal :=
  dx (xRow a0 a1 b t) (gRow a5 a6 b t) (gRow a3 a4 b t) (sRow a7 b) k

/-- The three sums over one token block: of the gradient, of the gradient times the normalized row, of the passing
    gradient times the gated branch. -/
def blkAt (b : Fin 2) (j : Fin 8) (i : Fin 3) (k : Fin 3072) : EReal :=
  if i.val < 1 then ∑ r : Fin 128, gRow a5 a6 b (tok j r) k
  else if i.val - 1 < 1 then ∑ r : Fin 128, gRow a5 a6 b (tok j r) k * hat (xRow a0 a1 b (tok j r)) k
  else ∑ r : Fin 128, gRow a3 a4 b (tok j r) k * a2 (ix3 b (tok j r) k)

/-- The greatest absolute input gradient of a row. -/
def maxAt (b : Fin 2) (t : Fin 1024) : EReal :=
  Finset.fold max (Ideal.ofBits .f32 0xFF800000#32)
    (fun k : Fin 3072 => FloatOps.absf (F := Ideal) (φ := .f32) (dxAt a0 a1 a3 a4 a5 a6 a7 b t k)) Finset.univ

/-- The input gradient divided by its scale and clipped to the range of the narrow format. -/
def codeAt (b : Fin 2) (t : Fin 1024) (k : Fin 3072) : EReal :=
  min (Ideal.ofBits .f32 0x47600000#32) (max (Ideal.ofBits .f32 0xC7600000#32)
    (dxAt a0 a1 a3 a4 a5 a6 a7 b t k * Ideal.div 1 (a8 (ix1 0))))

end

end Cert.Row
-- ==== Proof.KernelMath.lean ====
/- The kernel's vector expressions read at an index, over the extended reals. -/
module

public import proofs.«01_k».proof.Proof.KernelBody
public import proofs.«01_k».proof.Proof.RowMath

@[expose] public section

set_option maxRecDepth 16384

noncomputable section

namespace Cert.KernelIdeal.Math

open Cert.KernelIdeal Cert.KernelIdeal.Gen Cert.KernelIdeal.Hand Cert.Row
open Idealize.ShloMosaic

/-- The named constant at the extended reals. -/
theorem inv_d : Named.named (F := Ideal) Cert.KernelIdeal.κ "inv_d" (φ := .f32) 0x39AAAAAB#32 = invD :=
  IdealRules.named_const.ideal_named_scalar _ _ _ _ rfl

/-- A point of the grid at batch entry `b` and token block `j`, and the blocks it reads of the nine arguments. -/
structure Point (i : grid0.Coords) (b : Fin 2) (j : Fin 8)
    (x0 x1 x2 : Vec Ideal S1 .f32) (x3 : Vec Ideal S1x128x3072 .fp8e4m3) (x4 : Vec Ideal S2x1024 .f32) (x5 : Vec Ideal S1x128x3072 .bf16)
    (x6 x7 : Vec Ideal S1x128x3072 .fp8e5m2) (x8 : Vec Ideal S2x3072 .f32)
    (a0 : Arr A3) (a1 : Arr A2) (a2 a3 : Arr A3) (a4 : Arr A1) (a5 : Arr A3) (a6 : Arr A1) (a7 : Arr M2) (a8 : Arr A1) : Prop where
  row : (i 0).val = b.val
  col : k0_off1 i 1 = j.val * 128
  h0 : x0 = a4
  h1 : x1 = a6
  h2 : x2 = a8
  h3 : ∀ (r : Fin 128) (k : Fin 3072), x3 (ix3 0 r k) = a0 (ix3 b (tok j r) k)
  h4 : x4 = a1
  h5 : ∀ (r : Fin 128) (k : Fin 3072), x5 (ix3 0 r k) = a2 (ix3 b (tok j r) k)
  h6 : ∀ (r : Fin 128) (k : Fin 3072), x6 (ix3 0 r k) = a3 (ix3 b (tok j r) k)
  h7 : ∀ (r : Fin 128) (k : Fin 3072), x7 (ix3 0 r k) = a5 (ix3 b (tok j r) k)
  h8 : x8 = a7

theorem ld_tok {e : EltTy} (x : Vec Ideal S1x128x3072 e) : View.ld x rTok = x :=
  View.ld_unit_zero hz3 _ x

theorem ld_mod {e : EltTy} (x : Vec Ideal S2x3072 e) : View.ld x rMod = x :=
  View.ld_unit_zero hz2 _ x

theorem ld_acc {e : EltTy} (x : Vec Ideal S1x3x3072 e) : View.ld x rAcc = x :=
  View.ld_unit_zero hz3 _ x

theorem one_eq (x : Vec Ideal S1 .f32) : one x = x (ix1 0) := by
  unfold one
  exact congrArg x (by idx_ext)

/-- Where a row and column of the point's segment of a row vector lie in the whole vector. -/
theorem col_emb (i : grid0.Coords) (b : Fin 2) (j : Fin 8) (hc : k0_off1 i 1 = j.val * 128) (r : Fin 128) :
    (rCol i).emb (ix2 b r) = (ix2 b (tok j r) : S2x1024.Idx) := by
  funext a
  apply Fin.ext
  match a with
  | ⟨0, _⟩ =>
    show k0_off1 i 0 + 1 * b.val = b.val
    have : k0_off1 i 0 = 0 := rfl
    omega
  | ⟨1, _⟩ =>
    show k0_off1 i 1 + 1 * r.val = j.val * 128 + r.val
    omega

section
variable {i : grid0.Coords} {b : Fin 2} {j : Fin 8}
    {x0 x1 x2 : Vec Ideal S1 .f32} {x3 : Vec Ideal S1x128x3072 .fp8e4m3} {x4 : Vec Ideal S2x1024 .f32} {x5 : Vec Ideal S1x128x3072 .bf16}
    {x6 x7 : Vec Ideal S1x128x3072 .fp8e5m2} {x8 : Vec Ideal S2x3072 .f32}
    {a0 : Arr A3} {a1 : Arr A2} {a2 a3 : Arr A3} {a4 : Arr A1} {a5 : Arr A3} {a6 : Arr A1} {a7 : Arr M2} {a8 : Arr A1}
    (P : Point i b j x0 x1 x2 x3 x4 x5 x6 x7 x8 a0 a1 a2 a3 a4 a5 a6 a7 a8)
include P

theorem pay2_apply (r : Fin 128) (k : Fin 3072) :
    k0_pay2 (F := Ideal) i (View.ld x4 (rCol i)) (View.ld x3 rTok) (ix2 r k) = ctr (xRow a0 a1 b (tok j r)) k := by
  have hl : View.ld x4 (rCol i) (ix2 b r) = a1 (ix2 b (tok j r)) := by
    rw [← P.h4]; exact congrArg x4 (col_emb i b j P.col r)
  rw [ld_tok]
  generalize View.ld x4 (rCol i) = v3 at hl
  pointwise [k0_pay2, inv_d, P.row, pick b (fun x => v3 (ix2 x r)), hl, P.h3]
  rfl

theorem pay3_apply (r : Fin 128) : vRstd (F := Ideal) i x3 x4 (ix2 r 0) = rstd (xRow a0 a1 b (tok j r)) := by
  pointwise [vRstd, k0_pay3, inv_d, pay2_apply P]
  rfl

theorem pay4_apply (r : Fin 128) (k : Fin 3072) : vXhat (F := Ideal) i x3 x4 (ix2 r k) = hat (xRow a0 a1 b (tok j r)) k := by
  have h3 := pay3_apply P r
  unfold vRstd at h3
  pointwise [vXhat, k0_pay4, pay2_apply P, h3]
  rfl

theorem pay5_apply (r : Fin 128) (k : Fin 3072) : vDh (F := Ideal) x1 x7 (ix2 r k) = gRow a5 a6 b (tok j r) k := by
  unfold vDh
  rw [ld_tok, one_eq, P.h1]
  pointwise [k0_pay5, P.h7]
  rfl

theorem pay6_apply (r : Fin 128) (k : Fin 3072) : vDy (F := Ideal) x0 x6 (ix2 r k) = gRow a3 a4 b (tok j r) k := by
  unfold vDy
  rw [ld_tok, one_eq, P.h0]
  pointwise [k0_pay6, P.h6]
  rfl

theorem pay7_apply (l : Fin 3) (k : Fin 3072) :
    k0_pay7 (F := Ideal) (vXhat i x3 x4) (vDh x1 x7) (View.ld x6 rTok) (one x0) (View.ld x5 rTok) (ix2 l k)
      = blkAt a0 a1 a2 a3 a4 a5 a6 b j l k := by
  have h6 := pay6_apply P
  unfold vDy at h6
  rw [ld_tok x5]
  pointwise [k0_pay7, h6, pay4_apply P, pay5_apply P, P.h5]
  rfl

theorem blk_apply (l : Fin 3) (k : Fin 3072) :
    vBlk (F := Ideal) i x0 x1 x3 x4 x5 x6 x7 (ix4 0 0 l k) = blkAt a0 a1 a2 a3 a4 a5 a6 b j l k := by
  pointwise [vBlk, k0_pay8, pay7_apply P]

theorem accA_apply (l : Fin 3) (k : Fin 3072) :
    vAccA (F := Ideal) i x0 x1 x3 x4 x5 x6 x7 (ix3 0 l k) = blkAt a0 a1 a2 a3 a4 a5 a6 b j l k := by
  pointwise [vAccA, k0_pay9, pay7_apply P]

theorem accB_apply (z : Vec Ideal S1x3x3072 .f32) (l : Fin 3) (k : Fin 3072) :
    vAccB (F := Ideal) i x0 x1 x3 x4 x5 x6 x7 z (ix3 0 l k) = z (ix3 0 l k) + blkAt a0 a1 a2 a3 a4 a5 a6 b j l k := by
  unfold vAccB
  rw [ld_acc]
  pointwise [k0_pay10, pay7_apply P]

theorem mod_apply (k : Fin 3072) : vMod (F := Ideal) i x8 (ix2 0 k) = sRow a7 b k := by
  unfold vMod
  rw [ld_mod, P.h8]
  pointwise [k0_pay11, P.row, pick b (fun x => a7 (ix2 x k))]
  rfl

theorem pay12_apply (r : Fin 128) (k : Fin 3072) :
    k0_pay12 (F := Ideal) (vRstd i x3 x4) (vXhat i x3 x4) (vDh x1 x7) (vDy x0 x6) (vMod i x8) (ix2 r k)
      = dxAt a0 a1 a3 a4 a5 a6 a7 b (tok j r) k := by
  pointwise [k0_pay12, inv_d, pay3_apply P, pay4_apply P, pay5_apply P, pay6_apply P, mod_apply P]
  rfl

theorem max_apply (w : Vec Ideal S2x128 .f32) (r : Fin 128) :
    vMaxAt (F := Ideal) i x0 x1 x3 x4 x6 x7 x8 w (ix2 b r) = maxAt a0 a1 a3 a4 a5 a6 a7 b (tok j r) := by
  have hb : IntOp.cmpi CmpIPredicate.eq (BitVec.ofNat 32 b.val) (BitVec.ofNat 32 b.val) = 1#1 := by simp [IntOp.cmpi]
  pointwise [vMaxAt, k0_pay13, pay12_apply P, P.row, hb]
  rfl

theorem code_apply (r : Fin 128) (k : Fin 3072) :
    vCode (F := Ideal) i x0 x1 x2 x3 x4 x6 x7 x8 (ix3 0 r k) = codeAt a0 a1 a3 a4 a5 a6 a7 a8 b (tok j r) k := by
  unfold vCode
  rw [one_eq, P.h2]
  pointwise [k0_pay1, k0_pay14, pay12_apply P]
  rfl

end

end Cert.KernelIdeal.Math
-- ==== Proof.KernelPoint.lean ====
/- Every grid point of the idealized kernel as a batch entry and a token block, with the blocks it reads, over the
   extended reals. -/
module

public import proofs.«01_k».proof.Proof.KernelFrame
public import proofs.«01_k».proof.Proof.KernelMath
public import Idealize.ShloMosaic.Lib.Pipeline.ValueKit

@[expose] public section

set_option maxRecDepth 16384

noncomputable section

namespace Cert.KernelIdeal.Math

open Cert.KernelIdeal Cert.KernelIdeal.Gen Cert.KernelIdeal.Hand Cert.Row
open Idealize.ShloMosaic Idealize.ShloMosaic.TcCoe Idealize.SL.Sem

variable (m : (ℓ : Loc nD τ sig) → Buf (Elt Ideal) ℓ) (c : Dev nD)

/-! ## The blocks the windows take -/

theorem index0 : ∀ t : Fin cfg0.N, win0_0.index t = ![(0 : ℕ)] := (by decide +kernel : ∀ t : Fin grid0.N, _)
theorem index1 : ∀ t : Fin cfg0.N, win0_1.index t = ![(0 : ℕ)] := (by decide +kernel : ∀ t : Fin grid0.N, _)
theorem index2 : ∀ t : Fin cfg0.N, win0_2.index t = ![(0 : ℕ)] := (by decide +kernel : ∀ t : Fin grid0.N, _)
theorem index3 : ∀ t : Fin cfg0.N, win0_3.index t = ![(t.val / 8 : ℕ), t.val % 8, 0] := (by decide +kernel : ∀ t : Fin grid0.N, _)
theorem index4 : ∀ t : Fin cfg0.N, win0_4.index t = ![(0 : ℕ), 0] := (by decide +kernel : ∀ t : Fin grid0.N, _)
theorem index5 : ∀ t : Fin cfg0.N, win0_5.index t = ![(t.val / 8 : ℕ), t.val % 8, 0] := (by decide +kernel : ∀ t : Fin grid0.N, _)
theorem index6 : ∀ t : Fin cfg0.N, win0_6.index t = ![(t.val / 8 : ℕ), t.val % 8, 0] := (by decide +kernel : ∀ t : Fin grid0.N, _)
theorem index7 : ∀ t : Fin cfg0.N, win0_7.index t = ![(t.val / 8 : ℕ), t.val % 8, 0] := (by decide +kernel : ∀ t : Fin grid0.N, _)
theorem index8 : ∀ t : Fin cfg0.N, win0_8.index t = ![(0 : ℕ), 0] := (by decide +kernel : ∀ t : Fin grid0.N, _)
theorem index9 : ∀ t : Fin cfg0.N, win0_9.index t = ![(t.val / 8 : ℕ), 0, 0] := (by decide +kernel : ∀ t : Fin grid0.N, _)
theorem index10 : ∀ t : Fin cfg0.N, win0_10.index t = ![(t.val / 8 : ℕ), t.val % 8, 0, 0] := (by decide +kernel : ∀ t : Fin grid0.N, _)
theorem index12 : ∀ t : Fin cfg0.N, win0_12.index t = ![(t.val / 8 : ℕ), t.val % 8, 0] := (by decide +kernel : ∀ t : Fin grid0.N, _)

/-- The batch entry of a point. -/
def rowOf (t : Fin cfg0.N) : Fin 2 := ⟨t.val / 8, by have := Nat.lt_of_lt_of_eq t.isLt N_0; omega⟩

/-- The token block of a point. -/
def blockOf (t : Fin cfg0.N) : Fin 8 := ⟨t.val % 8, Nat.mod_lt _ (by decide)⟩

/-- Every point reads its blocks of the nine arguments. -/
theorem point (t : Fin cfg0.N) : Point (grid0.coords t) (rowOf t) (blockOf t)
    (iblk m c 0 t) (iblk m c 1 t) (iblk m c 2 t) (iblk m c 3 t) (iblk m c 4 t) (iblk m c 5 t) (iblk m c 6 t) (iblk m c 7 t) (iblk m c 8 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) where
  row := coord0 t
  col := off1_1 t
  h0 := by funext y; blk_ext [iblk, V, index0 t]
  h1 := by funext y; blk_ext [iblk, V, index1 t]
  h2 := by funext y; blk_ext [iblk, V, index2 t]
  h3 := fun r k => by blk_ext [iblk, V, index3 t, rowOf, blockOf, tok]
  h4 := by funext y; blk_ext [iblk, V, index4 t]
  h5 := fun r k => by blk_ext [iblk, V, index5 t, rowOf, blockOf, tok]
  h6 := fun r k => by blk_ext [iblk, V, index6 t, rowOf, blockOf, tok]
  h7 := fun r k => by blk_ext [iblk, V, index7 t, rowOf, blockOf, tok]
  h8 := by funext y; blk_ext [iblk, V, index8 t]

end Cert.KernelIdeal.Math

end
-- ==== Proof.KernelFinal.lean ====
/- What the idealized kernel's four result arrays hold after a run, over the extended reals. -/
module

public import proofs.«01_k».proof.Proof.KernelPoint

@[expose] public section

set_option maxRecDepth 16384

noncomputable section

namespace Cert.KernelIdeal.Math

open Cert.KernelIdeal Cert.KernelIdeal.Gen Cert.KernelIdeal.Hand Cert.Row
open Idealize.ShloMosaic Idealize.ShloMosaic.TcCoe Idealize.SL.Sem
open Idealize.ShloMosaic.Pipeline (Dat RDat Cfg Window)

variable (m : (ℓ : Loc nD τ sig) → Buf (Elt Ideal) ℓ) (ρ : Dev nD → PrngReg) (c : Dev nD)

/-- The three sums over a token block, of the arguments as launched. -/
abbrev blkM (b : Fin 2) (j : Fin 8) (l : Fin 3) (k : Fin 3072) : EReal :=
  Cert.Row.blkAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) b j l k

/-- The greatest absolute gradient of a row, of the arguments as launched. -/
abbrev maxM (b : Fin 2) (t : Fin 1024) : EReal :=
  Cert.Row.maxAt (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) b t

/-- The clipped quotient, of the arguments as launched. -/
abbrev codeM (b : Fin 2) (t : Fin 1024) (k : Fin 3072) : EReal :=
  Cert.Row.codeAt (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) b t k

/-! ## The running sums -/

/-- The first blocks' sums, added one after the other. -/
def upTo (f : Fin 8 → EReal) (n : ℕ) : EReal :=
  ∑ j ∈ Finset.range (n + 1), if h : j < 8 then f ⟨j, h⟩ else 0

theorem upTo_zero (f : Fin 8 → EReal) : upTo f 0 = f 0 := by
  unfold upTo; rw [Finset.sum_range_one, dif_pos (by decide)]; rfl

theorem upTo_succ (f : Fin 8 → EReal) (n : ℕ) (h : n + 1 < 8) : upTo f (n + 1) = upTo f n + f ⟨n + 1, h⟩ := by
  unfold upTo; rw [Finset.sum_range_succ, dif_pos h]

theorem upTo_last (f : Fin 8 → EReal) : upTo f 7 = ∑ j : Fin 8, f j := by
  unfold upTo
  rw [Finset.sum_range]
  exact Finset.sum_congr rfl fun j _ => dif_pos j.isLt

/-- At a point the running sums are those of the blocks up to its own, of its batch entry. -/
theorem sums_apply : ∀ (n : ℕ) (h : n < grid0.N) (l : Fin 3) (k : Fin 3072),
    sumsAt m c n h (ix3 0 l k) = upTo (fun j => blkM m c (rowOf ⟨n, h⟩) j l k) (n % 8) := by
  intro n
  induction n with
  | zero =>
    intro h l k
    rw [sumsAt_A m c ⟨0, h⟩ rfl, accA_apply (point m c ⟨0, h⟩) l k]
    exact (upTo_zero (fun j => blkM m c (rowOf ⟨0, h⟩) j l k)).symm
  | succ n ih =>
    intro h l k
    have hn : n < grid0.N := Nat.lt_of_succ_lt h
    by_cases h0 : (n + 1) % 8 = 0
    · rw [sumsAt_A m c ⟨n + 1, h⟩ h0, accA_apply (point m c ⟨n + 1, h⟩) l k, h0, upTo_zero]
      exact congrArg (fun j => blkM m c (rowOf ⟨n + 1, h⟩) j l k) (Fin.ext h0)
    · have h1 : (n + 1) % 8 = n % 8 + 1 := by omega
      have hb : rowOf ⟨n, hn⟩ = rowOf ⟨n + 1, h⟩ := Fin.ext (show n / 8 = (n + 1) / 8 by omega)
      rw [sumsAt_B m c ⟨n + 1, h⟩ (show 1 ≤ (n + 1) % 8 by omega), accB_apply (point m c ⟨n + 1, h⟩) _ l k]
      have e := ih hn l k
      rw [hb] at e
      have h8 : n % 8 + 1 < 8 := by omega
      refine (congrArg (· + _) e).trans ?_
      rw [h1, upTo_succ _ _ h8]
      exact congrArg (fun j => _ + blkM m c (rowOf ⟨n + 1, h⟩) j l k) (Fin.ext h1)

/-! ## The arrays named exactly -/

/-- An array named exactly ends as the exact data says. -/
theorem exact_of {cfg₁ : Cfg sig Λ₀} {c : Dev nD} (dat : Dat τ (Elt Ideal) Unit ℕ (UR sig nD τ) ℕ cfg₁ c) (fgt : Fin cfg₁.W → Bool)
    (Rl : (w : Fin cfg₁.W) → Fin cfg₁.N → ((cfg₁.win w).block.Idx → Elt Ideal (cfg₁.win w).elt) → Prop) (w : Fin cfg₁.W) (hf : fgt w = false)
    (G : Buf (Elt Ideal) ((cfg₁.win w).arr.view.loc (c.tc : Thread nD τ))) (h : (dat.toRRel fgt Rl).ArrAt w cfg₁.N G) : G = dat.arrAt w cfg₁.N :=
  ((dat.toR.override_arrAt (by simp only [hf]) _ _).trans (dat.toR_arrAt_iff w _ _)).mp h

theorem flush9 : ∀ t : Fin cfg0.N, (cfg0.win 9).flush t = true → t.val % 8 = 7 := (by decide +kernel : ∀ t : Fin grid0.N, _)

theorem final9 : (dats m 0 c).arrAt 9 cfg0.N = fun i : S2x3x3072.Idx => ∑ j : Fin 8, blkM m c (i 0) j (i 1) (i 2) := by
  refine (dats m 0 c).arrAt_eq_of_covers 9 _ (by decide +kernel) fun t hf y => ?_
  have h7 := flush9 t hf
  blk_simp
  rw [after0_9]
  obtain ⟨y0, l, k, rfl⟩ : ∃ (y0 : Fin 1) (l : Fin 3) (k : Fin 3072), y = ix3 y0 l k := ⟨y 0, y 1, y 2, eq_ix3 y⟩
  obtain rfl : y0 = 0 := Subsingleton.elim _ _
  have e := sums_apply m c t.val t.isLt l k
  rw [h7, upTo_last] at e
  refine e.trans (Finset.sum_congr rfl fun j _ => ?_)
  congr 1 <;> apply Fin.ext <;> blk_simp [index9 t, rowOf] <;> simp

theorem final10 : (dats m 0 c).arrAt 10 cfg0.N = fun i : S2x8x3x3072.Idx => blkM m c (i 0) (i 1) (i 2) (i 3) := by
  refine (dats m 0 c).arrAt_eq_of_covers 10 _ (by decide +kernel) fun t hf y => ?_
  blk_simp
  rw [after0_10]
  obtain ⟨y0, y1, l, k, rfl⟩ : ∃ (y0 y1 : Fin 1) (l : Fin 3) (k : Fin 3072), y = ix4 y0 y1 l k := ⟨y 0, y 1, y 2, y 3, eq_ix4 y⟩
  obtain rfl : y0 = 0 := Subsingleton.elim _ _
  obtain rfl : y1 = 0 := Subsingleton.elim _ _
  refine (blk_apply (point m c t) l k).trans ?_
  congr 1 <;> apply Fin.ext <;> blk_simp [index10 t, rowOf, blockOf] <;> simp

theorem covers12 : (cfg0.win 12).Covers := by decide +kernel

theorem code_at (t : Fin cfg0.N) (r : Fin 128) (k : Fin 3072) (b' : Fin 2) (t' : Fin 1024) (k' : Fin 3072)
    (hb : b'.val = t.val / 8) (ht : t'.val = t.val % 8 * 128 + r.val) (hk : k'.val = k.val) :
    codeAt m c t (ix3 0 r k) = codeM m c b' t' k' := by
  obtain rfl : b' = rowOf t := Fin.ext hb
  obtain rfl : t' = tok (blockOf t) r := Fin.ext ht
  obtain rfl : k' = k := Fin.ext hk
  exact code_apply (point m c t) r _

theorem final12 : (dats m 0 c).arrAt 12 cfg0.N = fun i : S2x1024x3072.Idx => codeM m c (i 0) (i 1) (i 2) := by
  refine (dats m 0 c).arrAt_eq_of_covers 12 _ covers12 fun t hf y => ?_
  blk_simp
  rw [after0_12]
  obtain ⟨y0, r, k, rfl⟩ : ∃ (y0 : Fin 1) (r : Fin 128) (k : Fin 3072), y = ix3 y0 r k := ⟨y 0, y 1, y 2, eq_ix3 y⟩
  obtain rfl : y0 = 0 := Subsingleton.elim _ _
  refine code_at m c t r k _ _ _ ?_ ?_ ?_ <;> blk_simp [index12 t] <;> simp

/-! ## The array of maxima -/

theorem whole11 : ∃ h : 15 < cfg0.N, (cfg0.win 11).WholeAt ⟨15, h⟩ := ⟨by decide +kernel, by decide +kernel⟩

/-- What the last point may leave in the staging buffer of the maxima. -/
theorem held_apply (h : 15 < cfg0.N) (X : Vec Ideal S2x1024 .f32) (hX : Held m c ⟨15, h⟩ X) (b : Fin 2) (t : Fin 1024) :
    X (ix2 b t) = maxM m c b t := by
  have hN : b.val * 8 + t.val / 128 < grid0.N := by rw [N_0]; omega
  have hb : rowOf ⟨b.val * 8 + t.val / 128, hN⟩ = b := Fin.ext (show (b.val * 8 + t.val / 128) / 8 = b.val by omega)
  have hj : tok (blockOf ⟨b.val * 8 + t.val / 128, hN⟩) ⟨t.val % 128, Nat.mod_lt _ (by decide)⟩ = t :=
    Fin.ext (show (b.val * 8 + t.val / 128) % 8 * 128 + t.val % 128 = t.val by omega)
  have P := point m c ⟨b.val * 8 + t.val / 128, hN⟩
  have e := hX ⟨b.val * 8 + t.val / 128, hN⟩ (show b.val * 8 + t.val / 128 ≤ 15 by omega)
    (ix2 b ⟨t.val % 128, Nat.mod_lt _ (by decide)⟩) (show b.val = (b.val * 8 + t.val / 128) / 8 by omega)
  rw [hb] at P
  rw [col_emb _ b _ P.col, hj] at e
  refine e.trans ((max_apply P _ _).trans ?_)
  rw [hj]

/-- One write-back of the whole array, of data a marked window of which is held to a predicate. -/
theorem rel_of {cfg₁ : Cfg sig Λ₀} {c : Dev nD} (dat : Dat τ (Elt Ideal) Unit ℕ (UR sig nD τ) ℕ cfg₁ c) (fgt : Fin cfg₁.W → Bool)
    (Rl : (w : Fin cfg₁.W) → Fin cfg₁.N → ((cfg₁.win w).block.Idx → Elt Ideal (cfg₁.win w).elt) → Prop) (w : Fin cfg₁.W) (hf : fgt w = true)
    (G : Buf (Elt Ideal) ((cfg₁.win w).arr.view.loc (c.tc : Thread nD τ))) (hG : (dat.toRRel fgt Rl).ArrAt w cfg₁.N G)
    (t₀ : Fin cfg₁.N) (h : (cfg₁.win w).WholeAt t₀) :
    ∃ X, Rl w t₀ X ∧ ∀ j : (cfg₁.win w).shape.Idx,
      G ((cfg₁.win w).arr.view.emb j) = _root_.cast (congrArg (Elt Ideal) (cfg₁.win w).arr.view.elt_eq.symm) (X fun a => ⟨j a, h.lt_size j a⟩) := by
  obtain ⟨X, hX, hj⟩ := hG.emb_eq_of_wholeAt h
  exact ⟨X, dat.toRRel_leaves hf hX, hj⟩

theorem final11 (G : Vec Ideal S2x1024 .f32) (hG : (rdat m c).ArrAt 11 cfg0.N G) : G = fun i : S2x1024.Idx => maxM m c (i 0) (i 1) := by
  obtain ⟨h, hw⟩ := whole11
  obtain ⟨X, hX, hj⟩ := rel_of (dats m 0 c) marked (rel m c) 11 rfl G hG ⟨15, h⟩ hw
  funext i
  obtain ⟨b, t, rfl⟩ : ∃ (b : Fin 2) (t : Fin 1024), i = ix2 b t := ⟨i 0, i 1, eq_ix2 i⟩
  exact (hj (ix2 b t)).trans (held_apply m c h X hX b t)

end Cert.KernelIdeal.Math

end
-- ==== Proof.ReferenceMath.lean ====
/- The reference's vector expressions read at an index, over the extended reals. -/
module

public import proofs.«01_k».proof.Proof.Gen.ReferenceIdeal.Skeleton
public import proofs.«01_k».proof.Proof.RowMath

@[expose] public section

set_option maxRecDepth 16384

noncomputable section

namespace Cert.ReferenceIdeal.Math

open Cert.ReferenceIdeal Cert.ReferenceIdeal.Gen Cert.Row
open Idealize.ShloMosaic

theorem pay2_apply (v8 : Vec Ideal S2x1024x3072 .fp8e5m2) (v10 : Vec Ideal S1 .f32) (b : Fin 2) (j : Fin 8) (r : Fin 128) (k : Fin 3072) :
    k0_pay2 (F := Ideal) v8 v10 (ix4 b j r k) = gRow v8 v10 b (tok j r) k := by
  pointwise [k0_pay2]
  rfl

theorem pay3_apply (v8 : Vec Ideal S2x1024x3072 .fp8e5m2) (v10 : Vec Ideal S1 .f32) (b : Fin 2) (j : Fin 8) (r : Fin 128) (k : Fin 3072) :
    k0_pay3 (F := Ideal) v8 v10 (ix4 b j r k) = gRow v8 v10 b (tok j r) k := by
  pointwise [k0_pay3]
  rfl

theorem pay4_apply (v22 : Vec Ideal S2x1024x3072 .bf16) (b : Fin 2) (j : Fin 8) (r : Fin 128) (k : Fin 3072) :
    k0_pay4 (F := Ideal) v22 (ix4 b j r k) = v22 (ix3 b (tok j r) k) := by
  pointwise [k0_pay4]
  rfl

theorem pay5_apply (v1 : Vec Ideal S2x1024x3072 .fp8e4m3) (v3 : Vec Ideal S2x1024 .f32) (b : Fin 2) (j : Fin 8) (r : Fin 128) (k : Fin 3072) :
    k0_pay5 (F := Ideal) v1 v3 (ix4 b j r k) = ctr (xRow v1 v3 b (tok j r)) k := by
  pointwise [k0_pay5, div_3072]
  rfl

theorem pay6_apply (v1 : Vec Ideal S2x1024x3072 .fp8e4m3) (v3 : Vec Ideal S2x1024 .f32) (b : Fin 2) (j : Fin 8) (r : Fin 128) :
    k0_pay6 (F := Ideal) v1 v3 (ix4 b j r 0) = (∑ k, ctr (xRow v1 v3 b (tok j r)) k * ctr (xRow v1 v3 b (tok j r)) k) * invD := by
  pointwise [k0_pay6, div_3072, pay5_apply]

theorem pay8_apply (v1 : Vec Ideal S2x1024x3072 .fp8e4m3) (v3 : Vec Ideal S2x1024 .f32) (b : Fin 2) (j : Fin 8) (r : Fin 128) :
    k0_pay8 (F := Ideal) (k0_pay6 v1 v3) k0_pay7 (ix4 b j r 0) = rstd (xRow v1 v3 b (tok j r)) := by
  pointwise [k0_pay8, k0_pay7, pay6_apply]
  rfl

theorem pay9_apply (v1 : Vec Ideal S2x1024x3072 .fp8e4m3) (v3 : Vec Ideal S2x1024 .f32) (b : Fin 2) (j : Fin 8) (r : Fin 128) (k : Fin 3072) :
    k0_pay9 (F := Ideal) (k0_pay5 v1 v3) (k0_pay6 v1 v3) k0_pay7 (ix4 b j r k) = hat (xRow v1 v3 b (tok j r)) k := by
  pointwise [k0_pay9, pay8_apply, pay5_apply]
  rfl

variable (a0 : Vec Ideal S2x1024x3072 .fp8e4m3) (a1 : Vec Ideal S2x1024 .f32) (a2 : Vec Ideal S2x1024x3072 .bf16)
  (a3 : Vec Ideal S2x1024x3072 .fp8e5m2) (a4 : Vec Ideal S1 .f32) (a5 : Vec Ideal S2x1024x3072 .fp8e5m2)
  (a6 : Vec Ideal S1 .f32) (a7 : Vec Ideal S2x3072 .f32) (a8 : Vec Ideal S1 .f32)

theorem pay10_apply (b : Fin 2) (j : Fin 8) (i : Fin 3) (k : Fin 3072) :
    k0_pay10 (F := Ideal) (k0_pay2 a3 a4) (k0_pay3 a5 a6) (k0_pay4 a2) (k0_pay5 a0 a1) (k0_pay6 a0 a1) k0_pay7 (ix4 b j i k)
      = blkAt a0 a1 a2 a3 a4 a5 a6 b j i k := by
  pointwise [k0_pay10, pay2_apply, pay3_apply, pay4_apply, pay9_apply]
  rfl

theorem pay11_apply (b : Fin 2) (i : Fin 3) (k : Fin 3072) :
    k0_pay11 (F := Ideal) (k0_pay2 a3 a4) (k0_pay3 a5 a6) (k0_pay4 a2) (k0_pay5 a0 a1) (k0_pay6 a0 a1) k0_pay7 (ix3 b i k)
      = ∑ j : Fin 8, blkAt a0 a1 a2 a3 a4 a5 a6 b j i k := by
  pointwise [k0_pay11, pay10_apply]

theorem tok_div_mod (t : Fin 1024) (h1 : t.val / 128 < 8) (h2 : t.val % 128 < 128) : tok ⟨t.val / 128, h1⟩ ⟨t.val % 128, h2⟩ = t := by
  apply Fin.ext
  show t.val / 128 * 128 + t.val % 128 = t.val
  omega

theorem pay12_apply (b : Fin 2) (t : Fin 1024) (k : Fin 3072) :
    k0_pay12 (F := Ideal) a7 (k0_pay2 a3 a4) (k0_pay3 a5 a6) (k0_pay5 a0 a1) (k0_pay6 a0 a1) k0_pay7 (ix3 b t k)
      = dxAt a0 a1 a3 a4 a5 a6 a7 b t k := by
  pointwise [k0_pay12, pay2_apply, pay3_apply, pay8_apply, pay9_apply, div_3072, tok_div_mod]
  rfl

theorem pay13_apply (b : Fin 2) (t : Fin 1024) :
    k0_pay13 (F := Ideal) a7 (k0_pay2 a3 a4) (k0_pay3 a5 a6) (k0_pay5 a0 a1) (k0_pay6 a0 a1) k0_pay7 (ix2 b t)
      = maxAt a0 a1 a3 a4 a5 a6 a7 b t := by
  pointwise [k0_pay13, pay12_apply]
  rfl

theorem pay1_apply (b : Fin 2) (t : Fin 1024) (k : Fin 3072) :
    k0_pay1 (F := Ideal) (k0_pay14 a7 (k0_pay2 a3 a4) (k0_pay3 a5 a6) (k0_pay5 a0 a1) (k0_pay6 a0 a1) k0_pay7 a8)
        (Scalar.ofBits .f32 0x47600000#32) k0_pay15 (ix3 b t k)
      = codeAt a0 a1 a3 a4 a5 a6 a7 a8 b t k := by
  pointwise [k0_pay1, k0_pay14, k0_pay15, pay12_apply]
  rfl

end Cert.ReferenceIdeal.Math
-- ==== Proof.Algebraic.lean ====
/- The idealized kernel and the idealized reference compute the same four arrays. -/
module

public import proofs.«01_k».proof.Defs
public import proofs.«01_k».proof.Proof.KernelFinal
public import proofs.«01_k».proof.Proof.ReferenceMath
public import proofs.«01_k».proof.Proof.Gen.ReferenceIdeal.Value
public import Idealize.ShloMosaic.Lib.Claim

@[expose] public section

set_option maxRecDepth 16384

noncomputable section

open Idealize.ShloMosaic Idealize.ShloMosaic.TcCoe Idealize.SL.Sem

/-! ## The reference's four arrays at an index -/

namespace Cert.ReferenceIdeal.Math

open Cert.ReferenceIdeal Cert.ReferenceIdeal.Gen Cert.ReferenceIdeal.Value Cert.Row

variable (a0 : Vec Ideal S2x1024x3072 .fp8e4m3) (a1 : Vec Ideal S2x1024 .f32) (a2 : Vec Ideal S2x1024x3072 .bf16)
  (a3 : Vec Ideal S2x1024x3072 .fp8e5m2) (a4 : Vec Ideal S1 .f32) (a5 : Vec Ideal S2x1024x3072 .fp8e5m2) (a6 : Vec Ideal S1 .f32)
  (a7 : Vec Ideal S2x3072 .f32) (a8 : Vec Ideal S1 .f32)

theorem hz1 : (![0] : Fin 1 → Nat) = fun _ => 0 := by funext a; match a with | ⟨0, _⟩ => rfl
theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

theorem ld_a {e : EltTy} (x : Vec Ideal S2x1024x3072 e) : View.ld x r0_1 = x := View.ld_unit_zero hz3 _ x
theorem ld_b {e : EltTy} (x : Vec Ideal S2x1024 e) : View.ld x r0_2 = x := View.ld_unit_zero hz2 _ x
theorem ld_c {e : EltTy} (x : Vec Ideal S1 e) : View.ld x r0_3 = x := View.ld_unit_zero hz1 _ x

theorem G9_eq : G9 (F := Ideal) a0 a1 a2 a3 a4 a5 a6 a7 a8 = fun i : S2x3x3072.Idx => ∑ j : Fin 8, blkAt a0 a1 a2 a3 a4 a5 a6 (i 0) j (i 1) (i 2) := by
  funext i
  obtain ⟨b, l, k, rfl⟩ : ∃ (b : Fin 2) (l : Fin 3) (k : Fin 3072), i = ix3 b l k := ⟨i 0, i 1, i 2, eq_ix3 i⟩
  unfold G9 k0_pay16 k0_pay17 k0_pay18 k0_pay19 k0_pay20 k0_pay21
  simp only [ld_a, ld_b, ld_c]
  exact pay11_apply a0 a1 a2 a3 a4 a5 a6 b l k

theorem G10_eq : G10 (F := Ideal) a0 a1 a2 a3 a4 a5 a6 a7 a8 = fun i : S2x8x3x3072.Idx => blkAt a0 a1 a2 a3 a4 a5 a6 (i 0) (i 1) (i 2) (i 3) := by
  funext i
  obtain ⟨b, j, l, k, rfl⟩ : ∃ (b : Fin 2) (j : Fin 8) (l : Fin 3) (k : Fin 3072), i = ix4 b j l k := ⟨i 0, i 1, i 2, i 3, eq_ix4 i⟩
  unfold G10 k0_pay16 k0_pay17 k0_pay18 k0_pay19 k0_pay20 k0_pay21
  simp only [ld_a, ld_b, ld_c]
  exact pay10_apply a0 a1 a2 a3 a4 a5 a6 b j l k

theorem G11_eq : G11 (F := Ideal) a0 a1 a2 a3 a4 a5 a6 a7 a8 = fun i : S2x1024.Idx => maxAt a0 a1 a3 a4 a5 a6 a7 (i 0) (i 1) := by
  funext i
  obtain ⟨b, t, rfl⟩ : ∃ (b : Fin 2) (t : Fin 1024), i = ix2 b t := ⟨i 0, i 1, eq_ix2 i⟩
  unfold G11 k0_pay16 k0_pay17 k0_pay19 k0_pay20 k0_pay21
  simp only [ld_a, ld_b, ld_c]
  exact pay13_apply a0 a1 a3 a4 a5 a6 a7 b t

theorem G12_eq : G12 (F := Ideal) a0 a1 a2 a3 a4 a5 a6 a7 a8 = fun i : S2x1024x3072.Idx => codeAt a0 a1 a3 a4 a5 a6 a7 a8 (i 0) (i 1) (i 2) := by
  funext i
  obtain ⟨b, t, k, rfl⟩ : ∃ (b : Fin 2) (t : Fin 1024) (k : Fin 3072), i = ix3 b t k := ⟨i 0, i 1, i 2, eq_ix3 i⟩
  unfold G12 k0_pay16 k0_pay17 k0_pay19 k0_pay20 k0_pay21
  simp only [ld_a, ld_b, ld_c]
  exact pay1_apply a0 a1 a3 a4 a5 a6 a7 a8 b t k

end Cert.ReferenceIdeal.Math

/-! ## The kernel's run -/

namespace Cert.KernelIdeal.Math

open Cert.KernelIdeal Cert.KernelIdeal.Gen Cert.KernelIdeal.Hand

variable (m : (ℓ : Loc nD τ sig) → Buf (Elt Ideal) ℓ) (ρ : Dev nD → PrngReg)

/-- After a run an array named exactly is the one the exact data says. -/
theorem exact_post {cfg₁ : Pipeline.Cfg sig Λ₀} (dat : (c : Dev nD) → Pipeline.Dat τ (Elt Ideal) Unit ℕ (UR sig nD τ) ℕ cfg₁ c) (fgt : Fin cfg₁.W → Bool)
    (Rl : (c : Dev nD) → (w : Fin cfg₁.W) → Fin cfg₁.N → ((cfg₁.win w).block.Idx → Elt Ideal (cfg₁.win w).elt) → Prop)
    {V : (c : Dev nD) → (b : Ref sig .tc) → Buf (Elt Ideal) ((c.tc : Thread nD τ).loc b)} {r : PUnit × MemSt nD τ sig (Elt Ideal)}
    (h : Pipeline.RDat.FramePost cfg₁ (fun c => (dat c).toRRel fgt (Rl c)) V r) (c : Dev nD) (w : Fin cfg₁.W) (hf : fgt w = false) :
    r.2.mem ((cfg₁.spec w).arr.view.loc (c.tc : Thread nD τ)) = (dat c).arrAt w cfg₁.N :=
  exact_of (dat c) fgt (Rl c) w hf _ ((h c).1 w)

/-- After a run an array is one the relational data allows. -/
theorem rel_post {cfg₁ : Pipeline.Cfg sig Λ₀} {rd : (c : Dev nD) → Pipeline.RDat τ (Elt Ideal) Unit ℕ (UR sig nD τ) ℕ cfg₁ c}
    {V : (c : Dev nD) → (b : Ref sig .tc) → Buf (Elt Ideal) ((c.tc : Thread nD τ).loc b)} {r : PUnit × MemSt nD τ sig (Elt Ideal)}
    (h : Pipeline.RDat.FramePost cfg₁ rd V r) (c : Dev nD) (w : Fin cfg₁.W) :
    (rd c).ArrAt w cfg₁.N (r.2.mem ((cfg₁.spec w).arr.view.loc (c.tc : Thread nD τ))) := (h c).1 w

section
variable (r : PUnit × MemSt nD τ sig (Elt Ideal)) (h : Pipeline.RDat.FramePost (cfgs 0) (rdat m) (V m) r) (c : Dev nD)
include h

theorem post9 : r.2.mem ((c.tc : Thread nD τ).loc main_v0_0) = (fun i : S2x3x3072.Idx => ∑ j : Fin 8, blkM m c (i 0) j (i 1) (i 2)) := by
  refine Eq.trans ?_ (final9 m c)
  exact exact_post (fun c => dats m 0 c) marked (rel m) h c 9 rfl

theorem post10 : r.2.mem ((c.tc : Thread nD τ).loc main_v0_1) = (fun i : S2x8x3x3072.Idx => blkM m c (i 0) (i 1) (i 2) (i 3)) := by
  refine Eq.trans ?_ (final10 m c)
  exact exact_post (fun c => dats m 0 c) marked (rel m) h c 10 rfl

theorem post11 : r.2.mem ((c.tc : Thread nD τ).loc main_v0_2) = (fun i : S2x1024.Idx => maxM m c (i 0) (i 1)) := by
  refine final11 m c _ ?_
  exact rel_post h c 11

theorem post12 : r.2.mem ((c.tc : Thread nD τ).loc main_v0_3) = (fun i : S2x1024x3072.Idx => codeM m c (i 0) (i 1) (i 2)) := by
  refine Eq.trans ?_ (final12 m c)
  exact exact_post (fun c => dats m 0 c) marked (rel m) h c 12 rfl

end

/-- Every run ends with the four results at the rows' arithmetic of the arguments as launched. -/
theorem results : θ_run defs (onTc (τ := τ) (main (F := Ideal))) ⟨m, fun _ => 0, ρ⟩ (fun r => ∀ c : Dev nD,
    r.2.mem ((c.tc : Thread nD τ).loc main_v0_0) = (fun i : S2x3x3072.Idx => ∑ j : Fin 8, blkM m c (i 0) j (i 1) (i 2))
    ∧ r.2.mem ((c.tc : Thread nD τ).loc main_v0_1) = (fun i : S2x8x3x3072.Idx => blkM m c (i 0) (i 1) (i 2) (i 3))
    ∧ r.2.mem ((c.tc : Thread nD τ).loc main_v0_2) = (fun i : S2x1024.Idx => maxM m c (i 0) (i 1))
    ∧ r.2.mem ((c.tc : Thread nD τ).loc main_v0_3) = (fun i : S2x1024x3072.Idx => codeM m c (i 0) (i 1) (i 2))) :=
  (θ_run defs _ _).mono (fun r h c => ⟨post9 m r h.1 c, post10 m r h.1 c, post11 m r h.1 c, post12 m r h.1 c⟩) (run_main_quiescent m ρ)

end Cert.KernelIdeal.Math

/-! ## The claim -/

namespace Cert.Proof

/-- From memories that agree on the arguments, both end with the same four results and unchanged arguments. -/
theorem algebraic : Cert.algebraic_KernelIdeal_ReferenceIdeal
    (hKernelIdeal := Cert.KernelIdeal.Gen.facts) (hReferenceIdeal := Cert.ReferenceIdeal.Gen.facts) := by
  intro m ρ m' ρ' _ hagree
  refine ⟨_, _, _, _, (θ_run Cert.KernelIdeal.defs _ _).mono (fun _ h c =>
    ⟨(h.1 c).1, (h.1 c).2.1, (h.1 c).2.2.1, (h.1 c).2.2.2, h.2 c⟩)
    (θ_run_and (Cert.KernelIdeal.Math.results m ρ) (Cert.KernelIdeal.Hand.unchanged m ρ)), ?_⟩
  refine (θ_run Cert.ReferenceIdeal.defs _ _).mono (fun _ h c => ?_) (Cert.ReferenceIdeal.Value.run (F := Ideal) m' ρ')
  obtain ⟨e0, e1, e2, e3, hu⟩ := h c
  obtain ⟨h0, h1, h2, h3, h4, h5, h6, h7, h8⟩ := hagree c
  rw [Cert.ReferenceIdeal.Math.G9_eq] at e0
  rw [Cert.ReferenceIdeal.Math.G10_eq] at e1
  rw [Cert.ReferenceIdeal.Math.G11_eq] at e2
  rw [Cert.ReferenceIdeal.Math.G12_eq] at e3
  rw [h0, h1, h2, h3, h4, h5, h6] at e0 e1
  rw [h0, h1, h3, h4, h5, h6, h7] at e2
  rw [h0, h1, h3, h4, h5, h6, h7, h8] at e3
  exact ⟨e0, e1, e2, e3, hu⟩

end Cert.Proof

end
-- ==== Proof.lean ====
/- The claims: the kernel, its idealization and the reference each run to an end with the arguments unchanged, the
   idealization replaces one constant by the number it stands for, and over the extended reals the idealization and the
   reference end with the same four results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.PrintedFrame
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m g _ => Cert.Kernel.Hand.frame m g, fun m g _ => Cert.KernelIdeal.Hand.frame m g,
    fun m g _ => Cert.ReferenceIdeal.Gen.frame m g,
    IdealRules.named_const.statement Cert.KernelIdeal.κ "inv_d" .f32 0x39AAAAAB#32 ((1 / 3072 : ℝ) : EReal) rfl,
    Cert.Proof.algebraic⟩⟩

end Cert.Proof

end
